-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_admissible_KernelIdeal [hPre_admissible_KernelIdeal : Cert.Pre_admissible_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_admissible_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_admissible_ReferenceIdeal [hPre_admissible_ReferenceIdeal : Cert.Pre_admissible_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_admissible_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_admissible_KernelIdeal [hKernelIdeal : Cert.KernelIdeal.Facts] [hPre_admissible_KernelIdeal : Cert.Pre_admissible_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_admissible_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_admissible_ReferenceIdeal [hReferenceIdeal : Cert.ReferenceIdeal.Facts] [hPre_admissible_ReferenceIdeal : Cert.Pre_admissible_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_admissible_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_admissible_KernelIdeal [hKernelIdeal : Cert.KernelIdeal.Facts] [hReferenceIdeal : Cert.ReferenceIdeal.Facts] [hPre_admissible_KernelIdeal : Cert.Pre_admissible_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_admissible_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨4, ![512, 16, 8, 128]⟩ ⟨4, ![2048, 16, 8, 128]⟩ (Layout.meshBlock [2, 2, 4] ![[2], [], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![512, 16, 8, 128]⟩ ⟨4, ![2048, 16, 8, 128]⟩ (Layout.meshBlock [2, 2, 4] ![[2], [], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v38) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_admissible_KernelIdeal : Cert.Pre_admissible_KernelIdeal.Facts) (hPre_admissible_ReferenceIdeal : Cert.Pre_admissible_ReferenceIdeal.Facts),
    quiescent_Kernel (hKernel := hKernel)
    ∧ quiescent_KernelIdeal (hKernelIdeal := hKernelIdeal)
    ∧ quiescent_KernelIdeal_pre_admissible_KernelIdeal (hKernelIdeal := hKernelIdeal) (hPre_admissible_KernelIdeal := hPre_admissible_KernelIdeal)
    ∧ quiescent_ReferenceIdeal (hReferenceIdeal := hReferenceIdeal)
    ∧ quiescent_ReferenceIdeal_pre_admissible_ReferenceIdeal (hReferenceIdeal := hReferenceIdeal) (hPre_admissible_ReferenceIdeal := hPre_admissible_ReferenceIdeal)
    ∧ preserves_Kernel_KernelIdeal
    ∧ algebraic_KernelIdeal_ReferenceIdeal_pre_admissible_KernelIdeal (hKernelIdeal := hKernelIdeal) (hReferenceIdeal := hReferenceIdeal) (hPre_admissible_KernelIdeal := hPre_admissible_KernelIdeal)
-- ==== Pre_admissible_KernelIdeal.lean ====
abbrev S8x1x8x128 : Shape := ⟨4, ![8, 1, 8, 128]⟩
abbrev S512x16x8x128 : Shape := ⟨4, ![512, 16, 8, 128]⟩
abbrev S8x512 : Shape := ⟨2, ![8, 512]⟩
abbrev S8 : Shape := ⟨1, ![8]⟩
abbrev S512 : Shape := ⟨1, ![512]⟩
abbrev S1x512 : Shape := ⟨2, ![1, 512]⟩
abbrev S8x1 : Shape := ⟨2, ![8, 1]⟩
abbrev S_ : Shape := ⟨0, ![]⟩

class Facts : Prop where
  bcast_S512_S1x512_1 : S512.BroadcastsInDim S1x512 (![1] : Fin 1 → Fin S1x512.rank)
  bcast_S8_S8x1_0 : S8.BroadcastsInDim S8x1 (![0] : Fin 1 → Fin S8x1.rank)
  bcast_S1x512_S8x512_0_1 : S1x512.BroadcastsInDim S8x512 (![0, 1] : Fin 2 → Fin S8x512.rank)
  bcast_S8x1_S8x512_0_1 : S8x1.BroadcastsInDim S8x512 (![0, 1] : Fin 2 → Fin S8x512.rank)
  bcast_S_S8x1x8x128 : S_.BroadcastsInDim S8x1x8x128 (![] : Fin 0 → Fin S8x1x8x128.rank)
  reducesTo_S8x1x8x128_S_d0_1_2_3 : S8x1x8x128.ReducesTo [0, 1, 2, 3] S_
  h_S_ : 0 < S_.numel
  bcast_S_S512x16x8x128 : S_.BroadcastsInDim S512x16x8x128 (![] : Fin 0 → Fin S512x16x8x128.rank)
  reducesTo_S512x16x8x128_S_d0_1_2_3 : S512x16x8x128.ReducesTo [0, 1, 2, 3] S_
  bcast_S_S8 : S_.BroadcastsInDim S8 (![] : Fin 0 → Fin S8.rank)
  reducesTo_S8_S_d0 : S8.ReducesTo [0] S_
  bcast_S_S8x512 : S_.BroadcastsInDim S8x512 (![] : Fin 0 → Fin S8x512.rank)
  reducesTo_S8x512_S_d0_1 : S8x512.ReducesTo [0, 1] S_

variable [Facts]

def fn_part1 {F : FTy → Type} [FloatOps F] (main_arg3 : IVec S8x512 32) (main_v5 : IVec S8x512 1) (main_v14 : IVec S_ 1) (main_v17 : IVec S_ 1) : IVec S_ 1 :=
  let main_v18 : IVec S_ 1 := andi main_v14 main_v17
  let main_v19 : IVec S8x512 1 := noti main_v5
  let main_c_4 : IVec S_ 32 := constantI S_ 32 0#32
  let main_v20 : IVec S8x512 32 := broadcastInDim S8x512 ![] bcast_S_S8x512 main_c_4
  let main_v21 : IVec S8x512 1 := cmpi .sge main_arg3 main_v20
  let main_c_5 : IVec S_ 32 := constantI S_ 32 2048#32
  let main_v22 : IVec S8x512 32 := broadcastInDim S8x512 ![] bcast_S_S8x512 main_c_5
  let main_v23 : IVec S8x512 1 := cmpi .slt main_arg3 main_v22
  let main_v24 : IVec S8x512 1 := andi main_v21 main_v23
  let main_v25 : IVec S8x512 1 := ori main_v19 main_v24
  let main_c_6 : IVec S_ 1 := constantI S_ 1 1#1
  let main_v26 : IVec S_ 1 := (fun x v => Host.reduce IntOp.andi x v reducesTo_S8x512_S_d0_1 h_S_) main_v25 main_c_6
  let main_v27 : IVec S_ 1 := andi main_v18 main_v26
  main_v27

def fn {F : FTy → Type} [FloatOps F] (main_arg0 : FVec F S8x1x8x128 .f32) (main_arg1 : FVec F S512x16x8x128 .f32) (main_arg2 : FVec F S512x16x8x128 .f32) (main_arg3 : IVec S8x512 32) (main_arg4 : IVec S8 32) : IVec S_ 1 :=
  let main_v0 : IVec S512 32 := iotaInDim S512 32 0
  let main_v1 : IVec S1x512 32 := broadcastInDim S1x512 ![1] bcast_S512_S1x512_1 main_v0
  let main_v2 : IVec S8x1 32 := broadcastInDim S8x1 ![0] bcast_S8_S8x1_0 main_arg4
  let main_v3 : IVec S8x512 32 := broadcastInDim S8x512 ![0, 1] bcast_S1x512_S8x512_0_1 main_v1
  let main_v4 : IVec S8x512 32 := broadcastInDim S8x512 ![0, 1] bcast_S8x1_S8x512_0_1 main_v2
  let main_v5 : IVec S8x512 1 := cmpi .slt main_v3 main_v4
  let main_v6 : FVec F S8x1x8x128 .f32 := Host.absf main_arg0
  let main_cst : FVec F S_ .f32 := constant S_ .f32 0x7F800000#32
  let main_v7 : FVec F S8x1x8x128 .f32 := broadcastInDim S8x1x8x128 ![] bcast_S_S8x1x8x128 main_cst
  let main_v8 : IVec S8x1x8x128 1 := cmpf .olt main_v6 main_v7
  let main_c : IVec S_ 1 := constantI S_ 1 1#1
  let main_v9 : IVec S_ 1 := (fun x v => Host.reduce IntOp.andi x v reducesTo_S8x1x8x128_S_d0_1_2_3 h_S_) main_v8 main_c
  let main_v10 : FVec F S512x16x8x128 .f32 := Host.absf main_arg1
  let main_cst_0 : FVec F S_ .f32 := constant S_ .f32 0x7F800000#32
  let main_v11 : FVec F S512x16x8x128 .f32 := broadcastInDim S512x16x8x128 ![] bcast_S_S512x16x8x128 main_cst_0
  let main_v12 : IVec S512x16x8x128 1 := cmpf .olt main_v10 main_v11
  let main_c_1 : IVec S_ 1 := constantI S_ 1 1#1
  let main_v13 : IVec S_ 1 := (fun x v => Host.reduce IntOp.andi x v reducesTo_S512x16x8x128_S_d0_1_2_3 h_S_) main_v12 main_c_1
  let main_v14 : IVec S_ 1 := andi main_v9 main_v13
  let main_c_2 : IVec S_ 32 := constantI S_ 32 1#32
  let main_v15 : IVec S8 32 := broadcastInDim S8 ![] bcast_S_S8 main_c_2
  let main_v16 : IVec S8 1 := cmpi .sge main_arg4 main_v15
  let main_c_3 : IVec S_ 1 := constantI S_ 1 1#1
  let main_v17 : IVec S_ 1 := (fun x v => Host.reduce IntOp.andi x v reducesTo_S8_S_d0 h_S_) main_v16 main_c_3
  fn_part1 (F := F) main_arg3 main_v5 main_v14 main_v17
-- ==== Pre_admissible_ReferenceIdeal.lean ====
abbrev S8x1x8x128 : Shape := ⟨4, ![8, 1, 8, 128]⟩
abbrev S2048x16x8x128 : Shape := ⟨4, ![2048, 16, 8, 128]⟩
abbrev S8x512 : Shape := ⟨2, ![8, 512]⟩
abbrev S8 : Shape := ⟨1, ![8]⟩
abbrev S512 : Shape := ⟨1, ![512]⟩
abbrev S1x512 : Shape := ⟨2, ![1, 512]⟩
abbrev S8x1 : Shape := ⟨2, ![8, 1]⟩
abbrev S_ : Shape := ⟨0, ![]⟩

class Facts : Prop where
  bcast_S512_S1x512_1 : S512.BroadcastsInDim S1x512 (![1] : Fin 1 → Fin S1x512.rank)
  bcast_S8_S8x1_0 : S8.BroadcastsInDim S8x1 (![0] : Fin 1 → Fin S8x1.rank)
  bcast_S1x512_S8x512_0_1 : S1x512.BroadcastsInDim S8x512 (![0, 1] : Fin 2 → Fin S8x512.rank)
  bcast_S8x1_S8x512_0_1 : S8x1.BroadcastsInDim S8x512 (![0, 1] : Fin 2 → Fin S8x512.rank)
  bcast_S_S8x1x8x128 : S_.BroadcastsInDim S8x1x8x128 (![] : Fin 0 → Fin S8x1x8x128.rank)
  reducesTo_S8x1x8x128_S_d0_1_2_3 : S8x1x8x128.ReducesTo [0, 1, 2, 3] S_
  h_S_ : 0 < S_.numel
  bcast_S_S2048x16x8x128 : S_.BroadcastsInDim S2048x16x8x128 (![] : Fin 0 → Fin S2048x16x8x128.rank)
  reducesTo_S2048x16x8x128_S_d0_1_2_3 : S2048x16x8x128.ReducesTo [0, 1, 2, 3] S_
  bcast_S_S8 : S_.BroadcastsInDim S8 (![] : Fin 0 → Fin S8.rank)
  reducesTo_S8_S_d0 : S8.ReducesTo [0] S_
  bcast_S_S8x512 : S_.BroadcastsInDim S8x512 (![] : Fin 0 → Fin S8x512.rank)
  reducesTo_S8x512_S_d0_1 : S8x512.ReducesTo [0, 1] S_

variable [Facts]

def fn_part1 {F : FTy → Type} [FloatOps F] (main_arg3 : IVec S8x512 32) (main_v5 : IVec S8x512 1) (main_v14 : IVec S_ 1) (main_v17 : IVec S_ 1) : IVec S_ 1 :=
  let main_v18 : IVec S_ 1 := andi main_v14 main_v17
  let main_v19 : IVec S8x512 1 := noti main_v5
  let main_c_4 : IVec S_ 32 := constantI S_ 32 0#32
  let main_v20 : IVec S8x512 32 := broadcastInDim S8x512 ![] bcast_S_S8x512 main_c_4
  let main_v21 : IVec S8x512 1 := cmpi .sge main_arg3 main_v20
  let main_c_5 : IVec S_ 32 := constantI S_ 32 2048#32
  let main_v22 : IVec S8x512 32 := broadcastInDim S8x512 ![] bcast_S_S8x512 main_c_5
  let main_v23 : IVec S8x512 1 := cmpi .slt main_arg3 main_v22
  let main_v24 : IVec S8x512 1 := andi main_v21 main_v23
  let main_v25 : IVec S8x512 1 := ori main_v19 main_v24
  let main_c_6 : IVec S_ 1 := constantI S_ 1 1#1
  let main_v26 : IVec S_ 1 := (fun x v => Host.reduce IntOp.andi x v reducesTo_S8x512_S_d0_1 h_S_) main_v25 main_c_6
  let main_v27 : IVec S_ 1 := andi main_v18 main_v26
  main_v27

def fn {F : FTy → Type} [FloatOps F] (main_arg0 : FVec F S8x1x8x128 .f32) (main_arg1 : FVec F S2048x16x8x128 .f32) (main_arg2 : FVec F S2048x16x8x128 .f32) (main_arg3 : IVec S8x512 32) (main_arg4 : IVec S8 32) : IVec S_ 1 :=
  let main_v0 : IVec S512 32 := iotaInDim S512 32 0
  let main_v1 : IVec S1x512 32 := broadcastInDim S1x512 ![1] bcast_S512_S1x512_1 main_v0
  let main_v2 : IVec S8x1 32 := broadcastInDim S8x1 ![0] bcast_S8_S8x1_0 main_arg4
  let main_v3 : IVec S8x512 32 := broadcastInDim S8x512 ![0, 1] bcast_S1x512_S8x512_0_1 main_v1
  let main_v4 : IVec S8x512 32 := broadcastInDim S8x512 ![0, 1] bcast_S8x1_S8x512_0_1 main_v2
  let main_v5 : IVec S8x512 1 := cmpi .slt main_v3 main_v4
  let main_v6 : FVec F S8x1x8x128 .f32 := Host.absf main_arg0
  let main_cst : FVec F S_ .f32 := constant S_ .f32 0x7F800000#32
  let main_v7 : FVec F S8x1x8x128 .f32 := broadcastInDim S8x1x8x128 ![] bcast_S_S8x1x8x128 main_cst
  let main_v8 : IVec S8x1x8x128 1 := cmpf .olt main_v6 main_v7
  let main_c : IVec S_ 1 := constantI S_ 1 1#1
  let main_v9 : IVec S_ 1 := (fun x v => Host.reduce IntOp.andi x v reducesTo_S8x1x8x128_S_d0_1_2_3 h_S_) main_v8 main_c
  let main_v10 : FVec F S2048x16x8x128 .f32 := Host.absf main_arg1
  let main_cst_0 : FVec F S_ .f32 := constant S_ .f32 0x7F800000#32
  let main_v11 : FVec F S2048x16x8x128 .f32 := broadcastInDim S2048x16x8x128 ![] bcast_S_S2048x16x8x128 main_cst_0
  let main_v12 : IVec S2048x16x8x128 1 := cmpf .olt main_v10 main_v11
  let main_c_1 : IVec S_ 1 := constantI S_ 1 1#1
  let main_v13 : IVec S_ 1 := (fun x v => Host.reduce IntOp.andi x v reducesTo_S2048x16x8x128_S_d0_1_2_3 h_S_) main_v12 main_c_1
  let main_v14 : IVec S_ 1 := andi main_v9 main_v13
  let main_c_2 : IVec S_ 32 := constantI S_ 32 1#32
  let main_v15 : IVec S8 32 := broadcastInDim S8 ![] bcast_S_S8 main_c_2
  let main_v16 : IVec S8 1 := cmpi .sge main_arg4 main_v15
  let main_c_3 : IVec S_ 1 := constantI S_ 1 1#1
  let main_v17 : IVec S_ 1 := (fun x v => Host.reduce IntOp.andi x v reducesTo_S8_S_d0 h_S_) main_v16 main_c_3
  fn_part1 (F := F) main_arg3 main_v5 main_v14 main_v17
-- ==== Kernel.lean ====
abbrev S8x1x8x128 : Shape := ⟨4, ![8, 1, 8, 128]⟩
abbrev S512x16x8x128 : Shape := ⟨4, ![512, 16, 8, 128]⟩
abbrev S8x512 : Shape := ⟨2, ![8, 512]⟩
abbrev S8 : Shape := ⟨1, ![8]⟩
abbrev S4x64x16x8x128 : Shape := ⟨5, ![4, 64, 16, 8, 128]⟩
abbrev S4 : Shape := ⟨1, ![4]⟩
abbrev S8x8x8192 : Shape := ⟨3, ![8, 8, 8192]⟩
abbrev S3x8x8x128 : Shape := ⟨4, ![3, 8, 8, 128]⟩
abbrev S3x3x8x8x128 : Shape := ⟨5, ![3, 3, 8, 8, 128]⟩
abbrev S3 : Shape := ⟨1, ![3]⟩
abbrev S1 : Shape := ⟨1, ![1]⟩
abbrev S_ : Shape := ⟨0, ![]⟩
abbrev S1x64x16x8x128 : Shape := ⟨5, ![1, 64, 16, 8, 128]⟩
abbrev S64x16x8x128 : Shape := ⟨4, ![64, 16, 8, 128]⟩
abbrev S8x8x128 : Shape := ⟨3, ![8, 8, 128]⟩
abbrev S8x128 : Shape := ⟨2, ![8, 128]⟩
abbrev S1024x1024 : Shape := ⟨2, ![1024, 1024]⟩
abbrev S8x1x128 : Shape := ⟨3, ![8, 1, 128]⟩
abbrev S1024x128 : Shape := ⟨2, ![1024, 128]⟩
abbrev S8x1024 : Shape := ⟨2, ![8, 1024]⟩
abbrev S8x1x1024 : Shape := ⟨3, ![8, 1, 1024]⟩
abbrev S8x1 : Shape := ⟨2, ![8, 1]⟩
abbrev S8x1x512 : Shape := ⟨3, ![8, 1, 512]⟩
abbrev S8x1x1 : Shape := ⟨3, ![8, 1, 1]⟩
abbrev S8x512x1 : Shape := ⟨3, ![8, 512, 1]⟩
abbrev S8x512x512 : Shape := ⟨3, ![8, 512, 512]⟩
abbrev S8x512x16 : Shape := ⟨3, ![8, 512, 16]⟩
abbrev S8x8192 : Shape := ⟨2, ![8, 8192]⟩
abbrev S16x1024 : Shape := ⟨2, ![16, 1024]⟩
abbrev S1024x256 : Shape := ⟨2, ![1024, 256]⟩
abbrev S16x256 : Shape := ⟨2, ![16, 256]⟩
abbrev S1x8x1x128 : Shape := ⟨4, ![1, 8, 1, 128]⟩
abbrev S1x8x2x128 : Shape := ⟨4, ![1, 8, 2, 128]⟩
abbrev S1x3x8x8x128 : Shape := ⟨5, ![1, 3, 8, 8, 128]⟩
abbrev S1x8x8x128 : Shape := ⟨4, ![1, 8, 8, 128]⟩

abbrev nBuf : Space → Nat
  | .hbm => 6
  | .vmem => 8
  | .smem => 0
  | _ => 0

abbrev bufTy : (tb : Table) → Fin (tcTables nBuf tb) → BufTy
  | .hbm, ⟨0, _⟩ => ⟨S8x1x8x128, .f32⟩
  | .hbm, ⟨1, _⟩ => ⟨S512x16x8x128, .f32⟩
  | .hbm, ⟨2, _⟩ => ⟨S512x16x8x128, .f32⟩
  | .hbm, ⟨3, _⟩ => ⟨S8x512, .i32⟩
  | .hbm, ⟨4, _⟩ => ⟨S8, .i32⟩
  | .hbm, ⟨5, _⟩ => ⟨S8x1x8x128, .f32⟩
  | .local _ .vmem, ⟨0, _⟩ => ⟨S8x1x8x128, .f32⟩
  | .local _ .vmem, ⟨1, _⟩ => ⟨S8x512, .i32⟩
  | .local _ .vmem, ⟨2, _⟩ => ⟨S8, .i32⟩
  | .local _ .vmem, ⟨3, _⟩ => ⟨S8x1x8x128, .f32⟩
  | .local _ .vmem, ⟨4, _⟩ => ⟨S4x64x16x8x128, .f32⟩
  | .local _ .vmem, ⟨5, _⟩ => ⟨S8x8x8192, .f32⟩
  | .local _ .vmem, ⟨6, _⟩ => ⟨S3x8x8x128, .bf16⟩
  | .local _ .vmem, ⟨7, _⟩ => ⟨S3x3x8x8x128, .bf16⟩
  | _, _ => ⟨S8x1x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 1 14 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_33 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_32 : BitVec 32 := 8#32
  let v28 : BitVec 32 := Scalar.muli v2 c8_i32_32
  let v29 : BitVec 32 := Scalar.addi c0_i32_33 v28
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_34 : BitVec 32 := 4#32
  let v30 : BitVec 32 := Scalar.muli v5 c4_i32_34
  let v31 : BitVec 32 := Scalar.addi v29 v30
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_29 : BitVec 32 := 1#32
  let v26 : BitVec 32 := Scalar.addi v8 c1_i32_29
  let c4_i32_30 : BitVec 32 := 4#32
  let v27 : BitVec 32 := Scalar.remsi v26 c4_i32_30
  let c1_i32_35 : BitVec 32 := 1#32
  let v32 : BitVec 32 := Scalar.muli v27 c1_i32_35
  let v33 : BitVec 32 := Scalar.addi v31 v32
  v33.toNat
def k0_dev2 (d0 : Dev nD) : Nat :=
  let c0_i32_40 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_39 : BitVec 32 := 8#32
  let v36 : BitVec 32 := Scalar.muli v2 c8_i32_39
  let v37 : BitVec 32 := Scalar.addi c0_i32_40 v36
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_41 : BitVec 32 := 4#32
  let v38 : BitVec 32 := Scalar.muli v5 c4_i32_41
  let v39 : BitVec 32 := Scalar.addi v37 v38
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_36 : BitVec 32 := 2#32
  let v34 : BitVec 32 := Scalar.addi v8 c2_i32_36
  let c4_i32_37 : BitVec 32 := 4#32
  let v35 : BitVec 32 := Scalar.remsi v34 c4_i32_37
  let c1_i32_42 : BitVec 32 := 1#32
  let v40 : BitVec 32 := Scalar.muli v35 c1_i32_42
  let v41 : BitVec 32 := Scalar.addi v39 v40
  v41.toNat
def k0_dev3 (d0 : Dev nD) : Nat :=
  let c0_i32_46 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_45 : BitVec 32 := 8#32
  let v44 : BitVec 32 := Scalar.muli v2 c8_i32_45
  let v45 : BitVec 32 := Scalar.addi c0_i32_46 v44
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_47 : BitVec 32 := 4#32
  let v46 : BitVec 32 := Scalar.muli v5 c4_i32_47
  let v47 : BitVec 32 := Scalar.addi v45 v46
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v42 : BitVec 32 := Scalar.addi v8 c3_i32
  let c4_i32_43 : BitVec 32 := 4#32
  let v43 : BitVec 32 := Scalar.remsi v42 c4_i32_43
  let c1_i32_48 : BitVec 32 := 1#32
  let v48 : BitVec 32 := Scalar.muli v43 c1_i32_48
  let v49 : BitVec 32 := Scalar.addi v47 v48
  v49.toNat
def k0_dev4 (d0 : Dev nD) : Nat :=
  let c0_i32_1144 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1143 : BitVec 32 := 8#32
  let v1843 : BitVec 32 := Scalar.muli v2 c8_i32_1143
  let v1844 : BitVec 32 := Scalar.addi c0_i32_1144 v1843
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1145 : BitVec 32 := 4#32
  let v1845 : BitVec 32 := Scalar.muli v5 c4_i32_1145
  let v1846 : BitVec 32 := Scalar.addi v1844 v1845
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1138 : BitVec 32 := 1#32
  let v1841 : BitVec 32 := Scalar.addi v8 c1_i32_1138
  let c4_i32_1139 : BitVec 32 := 4#32
  let v1842 : BitVec 32 := Scalar.remsi v1841 c4_i32_1139
  let c1_i32_1146 : BitVec 32 := 1#32
  let v1847 : BitVec 32 := Scalar.muli v1842 c1_i32_1146
  let v1848 : BitVec 32 := Scalar.addi v1846 v1847
  v1848.toNat
def k0_dev5 (d0 : Dev nD) : Nat :=
  let c0_i32_1157 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1156 : BitVec 32 := 8#32
  let v1857 : BitVec 32 := Scalar.muli v2 c8_i32_1156
  let v1858 : BitVec 32 := Scalar.addi c0_i32_1157 v1857
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1158 : BitVec 32 := 4#32
  let v1859 : BitVec 32 := Scalar.muli v5 c4_i32_1158
  let v1860 : BitVec 32 := Scalar.addi v1858 v1859
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1151 : BitVec 32 := 2#32
  let v1855 : BitVec 32 := Scalar.addi v8 c2_i32_1151
  let c4_i32_1152 : BitVec 32 := 4#32
  let v1856 : BitVec 32 := Scalar.remsi v1855 c4_i32_1152
  let c1_i32_1159 : BitVec 32 := 1#32
  let v1861 : BitVec 32 := Scalar.muli v1856 c1_i32_1159
  let v1862 : BitVec 32 := Scalar.addi v1860 v1861
  v1862.toNat
def k0_dev6 (d0 : Dev nD) : Nat :=
  let c0_i32_1170 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1169 : BitVec 32 := 8#32
  let v1871 : BitVec 32 := Scalar.muli v2 c8_i32_1169
  let v1872 : BitVec 32 := Scalar.addi c0_i32_1170 v1871
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1171 : BitVec 32 := 4#32
  let v1873 : BitVec 32 := Scalar.muli v5 c4_i32_1171
  let v1874 : BitVec 32 := Scalar.addi v1872 v1873
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1164 : BitVec 32 := 3#32
  let v1869 : BitVec 32 := Scalar.addi v8 c3_i32_1164
  let c4_i32_1165 : BitVec 32 := 4#32
  let v1870 : BitVec 32 := Scalar.remsi v1869 c4_i32_1165
  let c1_i32_1172 : BitVec 32 := 1#32
  let v1875 : BitVec 32 := Scalar.muli v1870 c1_i32_1172
  let v1876 : BitVec 32 := Scalar.addi v1874 v1875
  v1876.toNat
abbrev stage0_0 : Fin 1 → Memref sig .tc .vmem S8x1x8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x512 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1x8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S8x1x8x128 : Shape := ⟨4, ![8, 1, 8, 128]⟩
abbrev S2048x16x8x128 : Shape := ⟨4, ![2048, 16, 8, 128]⟩
abbrev S8x512 : Shape := ⟨2, ![8, 512]⟩
abbrev S8 : Shape := ⟨1, ![8]⟩
abbrev S_ : Shape := ⟨0, ![]⟩
abbrev S8x512x1 : Shape := ⟨3, ![8, 512, 1]⟩
abbrev S8x512x16x8x128 : Shape := ⟨5, ![8, 512, 16, 8, 128]⟩
abbrev S8x8192x8x128 : Shape := ⟨4, ![8, 8192, 8, 128]⟩
abbrev S8x8x1x8192 : Shape := ⟨4, ![8, 8, 1, 8192]⟩
abbrev S8192 : Shape := ⟨1, ![8192]⟩
abbrev S1x8192 : Shape := ⟨2, ![1, 8192]⟩
abbrev S8x1 : Shape := ⟨2, ![8, 1]⟩
abbrev S8x8192 : Shape := ⟨2, ![8, 8192]⟩
abbrev S8x1x1x8192 : Shape := ⟨4, ![8, 1, 1, 8192]⟩
abbrev S8x8x1 : Shape := ⟨3, ![8, 8, 1]⟩
abbrev S8x8x1x1 : Shape := ⟨4, ![8, 8, 1, 1]⟩
abbrev S8x8x128x1 : Shape := ⟨4, ![8, 8, 128, 1]⟩

abbrev nBuf : Space → Nat
  | .hbm => 72
  | .vmem => 0
  | .smem => 0
  | _ => 0

abbrev bufTy : (tb : Table) → Fin (tcTables nBuf tb) → BufTy
  | .hbm, ⟨0, _⟩ => ⟨S8x1x8x128, .f32⟩
  | .hbm, ⟨1, _⟩ => ⟨S2048x16x8x128, .f32⟩
  | .hbm, ⟨2, _⟩ => ⟨S2048x16x8x128, .f32⟩
  | .hbm, ⟨3, _⟩ => ⟨S8x512, .i32⟩
  | .hbm, ⟨4, _⟩ => ⟨S8, .i32⟩
  | .hbm, ⟨5, _⟩ => ⟨S_, .i32⟩
  | .hbm, ⟨6, _⟩ => ⟨S8x512, .i32⟩
  | .hbm, ⟨7, _⟩ => ⟨S8x512, .i1⟩
  | .hbm, ⟨8, _⟩ => ⟨S_, .i32⟩
  | .hbm, ⟨9, _⟩ => ⟨S8x512, .i32⟩
  | .hbm, ⟨10, _⟩ => ⟨S8x512, .i32⟩
  | .hbm, ⟨11, _⟩ => ⟨S8x512, .i32⟩
  | .hbm, ⟨12, _⟩ => ⟨S8x512x1, .i32⟩
  | .hbm, ⟨13, _⟩ => ⟨S8x512x16x8x128, .f32⟩
  | .hbm, ⟨14, _⟩ => ⟨S8x8192x8x128, .f32⟩
  | .hbm, ⟨15, _⟩ => ⟨S_, .i32⟩
  | .hbm, ⟨16, _⟩ => ⟨S8x512, .i32⟩
  | .hbm, ⟨17, _⟩ => ⟨S8x512, .i1⟩
  | .hbm, ⟨18, _⟩ => ⟨S_, .i32⟩
  | .hbm, ⟨19, _⟩ => ⟨S8x512, .i32⟩
  | .hbm, ⟨20, _⟩ => ⟨S8x512, .i32⟩
  | .hbm, ⟨21, _⟩ => ⟨S8x512, .i32⟩
  | .hbm, ⟨22, _⟩ => ⟨S8x512x1, .i32⟩
  | .hbm, ⟨23, _⟩ => ⟨S8x512x16x8x128, .f32⟩
  | .hbm, ⟨24, _⟩ => ⟨S8x8192x8x128, .f32⟩
  | .hbm, ⟨25, _⟩ => ⟨S8x8x1x8192, .f32⟩
  | .hbm, ⟨26, _⟩ => ⟨S_, .f32⟩
  | .hbm, ⟨27, _⟩ => ⟨S8x8x1x8192, .f32⟩
  | .hbm, ⟨28, _⟩ => ⟨S8x8x1x8192, .f32⟩
  | .hbm, ⟨29, _⟩ => ⟨S8192, .i32⟩
  | .hbm, ⟨30, _⟩ => ⟨S_, .i32⟩
  | .hbm, ⟨31, _⟩ => ⟨S_, .i32⟩
  | .hbm, ⟨32, _⟩ => ⟨S8192, .i32⟩
  | .hbm, ⟨33, _⟩ => ⟨S8192, .i32⟩
  | .hbm, ⟨34, _⟩ => ⟨S8192, .i32⟩
  | .hbm, ⟨35, _⟩ => ⟨S_, .i32⟩
  | .hbm, ⟨36, _⟩ => ⟨S8192, .i32⟩
  | .hbm, ⟨37, _⟩ => ⟨S8192, .i1⟩
  | .hbm, ⟨38, _⟩ => ⟨S8192, .i32⟩
  | .hbm, ⟨39, _⟩ => ⟨S8192, .i32⟩
  | .hbm, ⟨40, _⟩ => ⟨S_, .i32⟩
  | .hbm, ⟨41, _⟩ => ⟨S8192, .i32⟩
  | .hbm, ⟨42, _⟩ => ⟨S8192, .i1⟩
  | .hbm, ⟨43, _⟩ => ⟨S8192, .i1⟩
  | .hbm, ⟨44, _⟩ => ⟨S_, .i32⟩
  | .hbm, ⟨45, _⟩ => ⟨S8192, .i32⟩
  | .hbm, ⟨46, _⟩ => ⟨S8192, .i32⟩
  | .hbm, ⟨47, _⟩ => ⟨S8192, .i32⟩
  | .hbm, ⟨48, _⟩ => ⟨S1x8192, .i32⟩
  | .hbm, ⟨49, _⟩ => ⟨S8x1, .i32⟩
  | .hbm, ⟨50, _⟩ => ⟨S8x8192, .i32⟩
  | .hbm, ⟨51, _⟩ => ⟨S8x8192, .i32⟩
  | .hbm, ⟨52, _⟩ => ⟨S8x8192, .i1⟩
  | .hbm, ⟨53, _⟩ => ⟨S8x1x1x8192, .i1⟩
  | .hbm, ⟨54, _⟩ => ⟨S_, .f32⟩
  | .hbm, ⟨55, _⟩ => ⟨S_, .f32⟩
  | .hbm, ⟨56, _⟩ => ⟨S8x8x1x8192, .i1⟩
  | .hbm, ⟨57, _⟩ => ⟨S8x8x1x8192, .f32⟩
  | .hbm, ⟨58, _⟩ => ⟨S8x8x1x8192, .f32⟩
  | .hbm, ⟨59, _⟩ => ⟨S_, .f32⟩
  | .hbm, ⟨60, _⟩ => ⟨S8x8x1, .f32⟩
  | .hbm, ⟨61, _⟩ => ⟨S8x8x1x1, .f32⟩
  | .hbm, ⟨62, _⟩ => ⟨S8x8x1x8192, .f32⟩
  | .hbm, ⟨63, _⟩ => ⟨S8x8x1x8192, .f32⟩
  | .hbm, ⟨64, _⟩ => ⟨S8x8x1x8192, .f32⟩
  | .hbm, ⟨65, _⟩ => ⟨S_, .f32⟩
  | .hbm, ⟨66, _⟩ => ⟨S8x8x1, .f32⟩
  | .hbm, ⟨67, _⟩ => ⟨S8x8x1x1, .f32⟩
  | .hbm, ⟨68, _⟩ => ⟨S8x8x1x8192, .f32⟩
  | .hbm, ⟨69, _⟩ => ⟨S8x8x1x8192, .f32⟩
  | .hbm, ⟨70, _⟩ => ⟨S8x8x128x1, .f32⟩
  | .hbm, ⟨71, _⟩ => ⟨S8x1x8x128, .f32⟩
  | _, _ => ⟨S8x1x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_3 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_c : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_c_0 : Ref sig .tc := ⟨.hbm, 44, rfl⟩
abbrev main_call0_v12 : Ref sig .tc := ⟨.hbm, 45, rfl⟩
abbrev main_call0_v13 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_cst_4 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v27 : Ref sig .tc := ⟨.hbm, 58, rfl⟩
abbrev main_cst_5 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_cst_6 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩

abbrev nD : Nat := 1
abbrev τ : Topo := Topo.v7x

variable {F : FTy → Type} [FloatOps F]
-- ==== Proof.Talk.lean ====
/-
# The conversation of four devices

The kernel runs on sixteen devices, laid out 2 × 2 × 4. Only devices that share their first two mesh coordinates talk:
four of them stand on a circle, and device `c` meets the device `i + 1` places further on, for `i = 0, 1, 2`.

1. Every device raises the barrier of its three peers by one and waits until its own has been raised three times. By
   raising peer `i`'s barrier a device says that the landing place into which that peer will write is free.
2. It copies its own partial result into landing place `i` of peer `i`, for `i = 0, 1, 2`, and waits for the three copies
   that come in.
3. It waits for its own three copies to have left.

This module states that conversation: who pays for which wait and what changes hands. What may be copied is a parameter, `ok`:
the partial result of every device.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources: the pipeline's, the conversation's, and counters for a core's own copies -/

/-- The records of the rounds of the conversation. -/
abbrev UB : Type := URounds (GSem nD τ sig) (Fin 3)
/-- All records: those of the pipeline and those of the conversation. -/
abbrev UU : Type := UR sig nD τ × (UB × Counters)

local notation "𝕄" => MT nD τ sig Unit (Elt F) ℕ UU ℕ

/-- Where the pipeline's records are. -/
abbrev EP : Emb (UR sig nD τ) (MT nD τ sig Unit (Elt F) ℕ UU ℕ) := embL
/-- Where the conversation's records are. -/
abbrev ER : Emb UB (MT nD τ sig Unit (Elt F) ℕ UU ℕ) :=
  (Emb.inl : Emb UB (UB × Counters)).trans embR

/-! ## The peers -/

set_option backward.proofsInPublic true in
/-- The device `i + 1` places further on, on the circle of four that `c` stands on. -/
def peer (i : Fin 3) (c : Dev nD) : Dev nD :=
  ⟨8 * (c.val / 8) + 4 * ((c.val / 4) % 2) + ((c.val % 4) + (i.val + 1)) % 4, by have := c.isLt; have : nD = 16 := rfl; omega⟩

/-- Three places less one, two, three: the way back from peer `i`. -/
abbrev back (i : Fin 3) : Fin 3 := i.rev

/-- The opposite peer of a peer is the device itself. -/
theorem back_peer (i : Fin 3) (c : Dev nD) : peer (back i) (peer i c) = c := by revert i c; decide
/-- The peer of an opposite peer is the device itself. -/
theorem peer_back (i : Fin 3) (c : Dev nD) : peer i (peer (back i) c) = c := by revert i c; decide

/-- Going `i + 1` places on is a permutation of the devices. -/
def turn (i : Fin 3) : Dev nD ≃ Dev nD := ⟨peer i, peer (back i), back_peer i, peer_back i⟩

/-- The raise numbered 0 goes to peer 0. -/
theorem dev1_eq (c : Dev nD) : (⟨k0_dev1 c, k0_dev1_lt c⟩ : Dev nD) = peer 0 c := Fin.ext (k0_dev1_eq c)
/-- The raise numbered 1 goes to peer 1. -/
theorem dev2_eq (c : Dev nD) : (⟨k0_dev2 c, k0_dev2_lt c⟩ : Dev nD) = peer 1 c := Fin.ext (k0_dev2_eq c)
/-- The raise numbered 2 goes to peer 2. -/
theorem dev3_eq (c : Dev nD) : (⟨k0_dev3 c, k0_dev3_lt c⟩ : Dev nD) = peer 2 c := Fin.ext (k0_dev3_eq c)
/-- The copy numbered 0 goes to peer 0. -/
theorem dev4_eq (c : Dev nD) : (⟨k0_dev4 c, k0_dev4_lt c⟩ : Dev nD) = peer 0 c := Fin.ext (k0_dev4_eq c)
/-- The copy numbered 1 goes to peer 1. -/
theorem dev5_eq (c : Dev nD) : (⟨k0_dev5 c, k0_dev5_lt c⟩ : Dev nD) = peer 1 c := Fin.ext (k0_dev5_eq c)
/-- The copy numbered 2 goes to peer 2. -/
theorem dev6_eq (c : Dev nD) : (⟨k0_dev6 c, k0_dev6_lt c⟩ : Dev nD) = peer 2 c := Fin.ext (k0_dev6_eq c)

/-! ## The semaphores and the buffers -/

/-- The barrier semaphore. -/
abbrev barS : Sem sig := (SemArray.scalar (sig.barrier 0 rfl) : Sems sig S_).sem
/-- The semaphore of the departure of the copy to peer `i`. -/
abbrev sendS (i : Fin 3) : DmaSem sig := ⟨8 + i.val, by have := i.isLt; have : sig.nDmaSem = 14 := rfl; omega⟩
/-- The semaphore of the copy landing in place `i`. -/
abbrev recvS (i : Fin 3) : DmaSem sig := ⟨11 + i.val, by have := i.isLt; have : sig.nDmaSem = 14 := rfl; omega⟩
/-- The four semaphores of the copies out of the device's own pages. -/
abbrev pageS (i : Fin 4) : DmaSem sig := ⟨4 + i.val, by have := i.isLt; have : sig.nDmaSem = 14 := rfl; omega⟩

/-- The barrier of device `c`. -/
abbrev barCell (c : Dev nD) : GSem nD τ sig := ((c : Thread nD τ), .reg barS)
/-- The departure to peer `i` from device `c`. -/
abbrev sendCell (i : Fin 3) (c : Dev nD) : GSem nD τ sig := ((c : Thread nD τ), .dma (sendS i))
/-- The landing in place `i` of device `c`. -/
abbrev recvCell (i : Fin 3) (c : Dev nD) : GSem nD τ sig := ((c : Thread nD τ), .dma (recvS i))

/-- The device's partial result. -/
abbrev partM : Memref sig .tc .vmem S3x8x8x128 .bf16 := Memref.whole cc0_scratch3
/-- The three landing places. -/
abbrev commM : Memref sig .tc .vmem S3x3x8x8x128 .bf16 := Memref.whole cc0_scratch4
/-- Landing place `i`. -/
abbrev slotM : Fin 3 → Memref sig .tc .vmem S3x8x8x128 .bf16
  | 0 => (commM.slice (Rect.unit (s := S3x3x8x8x128) ![0, 0, 0, 0, 0] S1x3x8x8x128.size inb_S3x3x8x8x128_S1x3x8x8x128_0_0_0_0_0) (fun _ => rfl)).squeeze S3x8x8x128 squeezes_S1x3x8x8x128_S3x8x8x128
  | 1 => (commM.slice (Rect.unit (s := S3x3x8x8x128) ![1, 0, 0, 0, 0] S1x3x8x8x128.size inb_S3x3x8x8x128_S1x3x8x8x128_1_0_0_0_0) (fun _ => rfl)).squeeze S3x8x8x128 squeezes_S1x3x8x8x128_S3x8x8x128
  | 2 => (commM.slice (Rect.unit (s := S3x3x8x8x128) ![2, 0, 0, 0, 0] S1x3x8x8x128.size inb_S3x3x8x8x128_S1x3x8x8x128_2_0_0_0_0) (fun _ => rfl)).squeeze S3x8x8x128 squeezes_S1x3x8x8x128_S3x8x8x128

/-- The departure semaphore that the kernel names by index 0. -/
theorem send0_eq : ((cc0_scratch5.slice (Rect.unit (s := S3) ![0] S1.size inb_S3_S1_0)).squeeze S_ squeezes_S1_S_ : DmaSems sig S_).sem = sendS 0 := by decide
/-- The departure semaphore that the kernel names by index 1. -/
theorem send1_eq : ((cc0_scratch5.slice (Rect.unit (s := S3) ![1] S1.size inb_S3_S1_1)).squeeze S_ squeezes_S1_S_ : DmaSems sig S_).sem = sendS 1 := by decide
/-- The departure semaphore that the kernel names by index 2. -/
theorem send2_eq : ((cc0_scratch5.slice (Rect.unit (s := S3) ![2] S1.size inb_S3_S1_2)).squeeze S_ squeezes_S1_S_ : DmaSems sig S_).sem = sendS 2 := by decide
/-- The landing semaphore that the kernel names by index 0. -/
theorem recv0_eq : ((cc0_scratch6.slice (Rect.unit (s := S3) ![0] S1.size inb_S3_S1_0)).squeeze S_ squeezes_S1_S_ : DmaSems sig S_).sem = recvS 0 := by decide
/-- The landing semaphore that the kernel names by index 1. -/
theorem recv1_eq : ((cc0_scratch6.slice (Rect.unit (s := S3) ![1] S1.size inb_S3_S1_1)).squeeze S_ squeezes_S1_S_ : DmaSems sig S_).sem = recvS 1 := by decide
/-- The landing semaphore that the kernel names by index 2. -/
theorem recv2_eq : ((cc0_scratch6.slice (Rect.unit (s := S3) ![2] S1.size inb_S3_S1_2)).squeeze S_ squeezes_S1_S_ : DmaSems sig S_).sem = recvS 2 := by decide

/-- What one copied partial result is worth on a semaphore. -/
abbrev N : ℕ := partM.view.dmaCredit
/-- A copy gives at least one credit. -/
theorem N_pos : 0 < N := View.dmaCredit_pos _ (by decide)

/-! ## What changes hands -/

/-- The part of the partial result's share that is lent to the copy to peer `i`; a fourth part stays at home, so that the
    device can read its partial result while the copies are under way. -/
abbrev lent : Fin 3 → PosShare TreeShare
  | 0 => fullShare.left.left
  | 1 => fullShare.left.right
  | 2 => fullShare.right.left
/-- The share of the partial result that a device keeps for itself. -/
abbrev kept : PosShare TreeShare := fullShare.right.right

/-- The contents of a partial result. -/
abbrev Part (F : FTy → Type) : Type := (cc0_scratch3 : Ref sig .tc).ty.Contents (Elt F)

/-- Device `c`'s partial result, at a share. -/
def partPts (c : Dev nD) (q : PosShare TreeShare) (f : Part F) : sProp 𝕄 :=
  partM.view.loc (c : Thread nD τ) ↦[partM.view.set]{q} f
/-- Device `c`'s landing place `i`. -/
def slotPts (i : Fin 3) (c : Dev nD) (f : Buf (Elt F) ((c : Thread nD τ).loc cc0_scratch4)) : sProp 𝕄 :=
  match i with
  | 0 => (slotM 0).view.loc (c : Thread nD τ) ↦[(slotM 0).view.set]{fullShare} f
  | 1 => (slotM 1).view.loc (c : Thread nD τ) ↦[(slotM 1).view.set]{fullShare} f
  | 2 => (slotM 2).view.loc (c : Thread nD τ) ↦[(slotM 2).view.set]{fullShare} f
/-- Landing place `i` of device `c` after `p` has been copied into it. -/
def landed (i : Fin 3) (c : Dev nD) (p : Part F) : sProp 𝕄 :=
  match i with
  | 0 => iprop(∃ f : Buf (Elt F) ((c : Thread nD τ).loc cc0_scratch4), slotPts 0 c ((slotM 0).view.write (Elt F) f p Finset.univ))
  | 1 => iprop(∃ f : Buf (Elt F) ((c : Thread nD τ).loc cc0_scratch4), slotPts 1 c ((slotM 1).view.write (Elt F) f p Finset.univ))
  | 2 => iprop(∃ f : Buf (Elt F) ((c : Thread nD τ).loc cc0_scratch4), slotPts 2 c ((slotM 2).view.write (Elt F) f p Finset.univ))

omit [FloatOps F] in
/-- A share of the partial result can be put in a record. -/
instance partPts_storable (c : Dev nD) (q) (f) : BI.Storable (upEmb : UEmb _ 𝕄) (partPts (F := F) c q f) := by unfold partPts; infer_instance
omit [FloatOps F] in
/-- A landing place can be put in a record. -/
instance slotPts_storable (i : Fin 3) (c : Dev nD) (f) : BI.Storable (upEmb : UEmb _ 𝕄) (slotPts (F := F) i c f) := by
  unfold slotPts; split <;> infer_instance
omit [FloatOps F] in
/-- A landing place copied into can be put in a record. -/
instance landed_storable (i : Fin 3) (c : Dev nD) (p) : BI.Storable (upEmb : UEmb _ 𝕄) (landed (F := F) i c p) := by
  unfold landed; split <;> infer_instance

variable (ok : Dev nD → Part F → Prop)

/-- What a departure to peer `i` gives back: the share that was lent. -/
def home (i : Fin 3) (c : Dev nD) : sProp 𝕄 := iprop(∃ p : Part F, partPts c (lent i) p)
/-- What a landing in place `i` brings: a partial result that is right for the device it comes from. -/
def arrived (i : Fin 3) (c : Dev nD) : sProp 𝕄 := iprop(∃ p : Part F, ⌜ok (peer (back i) c) p⌝ ∗ landed i c p)

omit [FloatOps F] in
/-- What a departure gives back can be put in a record. -/
instance home_storable (i : Fin 3) (c : Dev nD) : BI.Storable (upEmb : UEmb _ 𝕄) (home (F := F) i c) := by unfold home; infer_instance
omit [FloatOps F] in
/-- What a landing brings can be put in a record. -/
instance arrived_storable (i : Fin 3) (c : Dev nD) : BI.Storable (upEmb : UEmb _ 𝕄) (arrived ok i c) := by unfold arrived; infer_instance

/-- What the raise numbered `d` of device `c`'s barrier hands to `c`: the landing place that `c` will write into on the device
    that raised, and that this device is ready to count the landing. -/
def barPay (d : Fin 3) (c : Dev nD) : sProp 𝕄 :=
  iprop((∃ f, slotPts (back d) (peer (back d) c) f) ∗ reached ER (recvCell (back d) (peer (back d) c)) 0)

/-- Which of the six copy semaphores a cell is: a departure (left) or a landing (right). -/
def which (g : GSem nD τ sig) : Option (Fin 3 ⊕ Fin 3) :=
  if g.2 = .dma (sendS 0) then some (.inl 0) else if g.2 = .dma (sendS 1) then some (.inl 1) else if g.2 = .dma (sendS 2) then some (.inl 2)
  else if g.2 = .dma (recvS 0) then some (.inr 0) else if g.2 = .dma (recvS 1) then some (.inr 1) else if g.2 = .dma (recvS 2) then some (.inr 2)
  else none

/-- Departures are known as departures. -/
theorem which_send (i : Fin 3) (c : Dev nD) : which (sendCell i c) = some (.inl i) := by
  have h : ∀ i : Fin 3, which ((0 : Dev nD), .dma (sendS i)) = some (.inl i) := by decide
  exact h i
/-- Landings are known as landings. -/
theorem which_recv (i : Fin 3) (c : Dev nD) : which (recvCell i c) = some (.inr i) := by
  have h : ∀ i : Fin 3, which ((0 : Dev nD), .dma (recvS i)) = some (.inr i) := by decide
  exact h i
/-- The barrier is neither. -/
theorem which_bar (c : Dev nD) : which (barCell c) = none := by
  have h : which ((0 : Dev nD), .reg barS) = none := by decide
  exact h

/-- The schedule. Everything happens in round 0: a barrier is raised three times, by one; a departure and a landing count
    one copied partial result. A departure gives the lent share back; a landing in place `i` gives the place, holding a
    right partial result of the device that reaches `c` in `i + 1` steps. -/
def talk : Rounds.Schedule (GSem nD τ sig) (Fin 3) 𝕄 where
  duties g r := if r = 0 ∧ g.1.2 = .tc then (if g.2 = .reg barS then Finset.univ else match which g with | some _ => {0} | none => ∅) else ∅
  unitless _ := False
  amount g _ _ := if g.2 = .reg barS then 1 else N
  payload g _ d :=
    if g.2 = .reg barS then barPay d g.1.1
    else match which g with
      | some (.inl i) => home i g.1.1
      | some (.inr i) => arrived ok i g.1.1
      | none => iprop(emp)
  amount_pos g _ _ _ := by
    by_cases h : g.2 = .reg barS
    · rw [if_pos h]; exact Nat.one_pos
    · rw [if_neg h]; exact N_pos

omit [FloatOps F] in
/-- What a raise of the barrier hands over can be put in a record. -/
instance barPay_storable (d : Fin 3) (c : Dev nD) : BI.Storable (upEmb : UEmb _ 𝕄) (barPay (F := F) d c) := by unfold barPay; infer_instance

omit [FloatOps F] in
/-- All that the conversation hands over can be put in a record. -/
instance talk_payload_storable (g : GSem nD τ sig) (r : ℕ) (d : Fin 3) :
    BI.Storable (upEmb : UEmb _ 𝕄) ((talk (F := F) ok).payload g r d) := by
  show BI.Storable upEmb (if g.2 = .reg barS then barPay d g.1.1
    else match which g with
      | some (.inl i) => home i g.1.1
      | some (.inr i) => arrived ok i g.1.1
      | none => iprop(emp))
  (repeat' split) <;> infer_instance

section Tables
variable (c : Dev nD)

/-- A semaphore of copies is not the barrier. -/
theorem dma_ne_bar (q : DmaSem sig) : (SemLoc.dma q : SemLoc sig) ≠ .reg barS := fun h => by cases h

omit [FloatOps F] in
/-- The barrier has three raises to come. -/
theorem duties_bar : (talk (F := F) ok).duties (barCell c) 0 = Finset.univ := by dsimp only [talk]; rw [if_pos ⟨rfl, rfl⟩, if_pos rfl]
omit [FloatOps F] in
/-- A departure happens once. -/
theorem duties_send (i : Fin 3) : (talk (F := F) ok).duties (sendCell i c) 0 = {0} := by
  dsimp only [talk]; rw [if_pos ⟨rfl, rfl⟩, if_neg (dma_ne_bar _), which_send]
omit [FloatOps F] in
/-- A landing happens once. -/
theorem duties_recv (i : Fin 3) : (talk (F := F) ok).duties (recvCell i c) 0 = {0} := by
  dsimp only [talk]; rw [if_pos ⟨rfl, rfl⟩, if_neg (dma_ne_bar _), which_recv]
omit [FloatOps F] in
/-- Nothing happens after the first round. -/
theorem duties_later (g : GSem nD τ sig) : ∀ r, 1 ≤ r → (talk (F := F) ok).duties g r = ∅ :=
  fun r hr => by dsimp only [talk]; rw [if_neg fun h => by omega]

omit [FloatOps F] in
/-- Each raise of the barrier is by one. -/
theorem amount_bar (d : Fin 3) : (talk (F := F) ok).amount (barCell c) 0 d = 1 := by dsimp only [talk]; exact if_pos rfl
omit [FloatOps F] in
/-- A departure counts one copy. -/
theorem amount_send (i d : Fin 3) : (talk (F := F) ok).amount (sendCell i c) 0 d = N := by dsimp only [talk]; exact if_neg (dma_ne_bar _)
omit [FloatOps F] in
/-- A landing counts one copy. -/
theorem amount_recv (i d : Fin 3) : (talk (F := F) ok).amount (recvCell i c) 0 d = N := by dsimp only [talk]; exact if_neg (dma_ne_bar _)

omit [FloatOps F] in
/-- The barrier is waited for with three. -/
theorem expect_bar : (talk (F := F) ok).expect (barCell c) 0 = 3 := by
  unfold Schedule.expect Schedule.amountOf
  rw [duties_bar, Finset.sum_congr rfl fun d _ => amount_bar ok c d, Finset.sum_const, Finset.card_univ, Fintype.card_fin, smul_eq_mul]
omit [FloatOps F] in
/-- A departure is waited for with one copy. -/
theorem expect_send (i : Fin 3) : (talk (F := F) ok).expect (sendCell i c) 0 = N := by
  unfold Schedule.expect Schedule.amountOf; rw [duties_send, Finset.sum_singleton, amount_send]
omit [FloatOps F] in
/-- A landing is waited for with one copy. -/
theorem expect_recv (i : Fin 3) : (talk (F := F) ok).expect (recvCell i c) 0 = N := by
  unfold Schedule.expect Schedule.amountOf; rw [duties_recv, Finset.sum_singleton, amount_recv]

omit [FloatOps F] in
/-- What a raise of the barrier hands over. -/
theorem payload_bar (d : Fin 3) : (talk (F := F) ok).payload (barCell c) 0 d = barPay d c := by dsimp only [talk]; rw [if_pos rfl]
omit [FloatOps F] in
/-- What a departure hands over. -/
theorem payload_send (i d : Fin 3) : (talk (F := F) ok).payload (sendCell i c) 0 d = home i c := by
  dsimp only [talk]; rw [if_neg (dma_ne_bar _), which_send]
omit [FloatOps F] in
/-- What a landing hands over. -/
theorem payload_recv (i d : Fin 3) : (talk (F := F) ok).payload (recvCell i c) 0 d = arrived ok i c := by
  dsimp only [talk]; rw [if_neg (dma_ne_bar _), which_recv]

omit [FloatOps F] in
/-- All that the barrier hands over, written out. -/
theorem rest_bar : bigSep ((talk (F := F) ok).duties (barCell c) 0 \ ∅) (fun d => (talk (F := F) ok).payload (barCell c) 0 d)
    = iprop(barPay 0 c ∗ barPay 1 c ∗ barPay 2 c) := by
  rw [Finset.sdiff_empty, duties_bar, bigSep_univ_eq_bigSepL [0, 1, 2] (by decide) (by decide), bigSepL_cons_cons, bigSepL_cons_cons, bigSepL_singleton,
    payload_bar, payload_bar, payload_bar]
  rfl
omit [FloatOps F] in
/-- All that a departure hands over. -/
theorem rest_send (i : Fin 3) : bigSep ((talk (F := F) ok).duties (sendCell i c) 0 \ ∅) (fun d => (talk (F := F) ok).payload (sendCell i c) 0 d)
    = home i c := by
  rw [Finset.sdiff_empty, duties_send, bigSep_singleton, payload_send]
omit [FloatOps F] in
/-- All that a landing hands over. -/
theorem rest_recv (i : Fin 3) : bigSep ((talk (F := F) ok).duties (recvCell i c) 0 \ ∅) (fun d => (talk (F := F) ok).payload (recvCell i c) 0 d)
    = arrived ok i c := by
  rw [Finset.sdiff_empty, duties_recv, bigSep_singleton, payload_recv]

end Tables

/-! ## What a device owes, and the order of the waits -/

/-- The three landings device `c` owes. -/
def owedCopies (c : Dev nD) : CellTallies nD τ sig Unit :=
  tallyAt (recvCell 2 (peer 2 c)) () N + tallyAt (recvCell 1 (peer 1 c)) () N + tallyAt (recvCell 0 (peer 0 c)) () N
/-- All that device `c` owes at the start: those and a unit to each of its peers' barriers. -/
def owedAll (c : Dev nD) : CellTallies nD τ sig Unit :=
  owedCopies c + tallyAt (barCell (peer 2 c)) () 1 + tallyAt (barCell (peer 1 c)) () 1 + tallyAt (barCell (peer 0 c)) () 1

/-- The semaphores that debts may be owed to. -/
def L (g : GSem nD τ sig) : Finset Unit := if g.1.2 = .tc then {()} else ∅
/-- Barriers come before landings, and all other semaphores before both. -/
def lv (g : GSem nD τ sig) (_ : Unit) : ℕ :=
  if g.2 = .reg barS then 1 else match which g with | some (.inr _) => 2 | _ => 0

/-- No debts are owed to any other kind of core. -/
theorem L_of_ne (g : GSem nD τ sig) (h : g.1.2 ≠ .tc) : L g = ∅ := if_neg h
/-- Debts may be owed to every semaphore of a device. -/
theorem L_tc (c : Dev nD) (sm : SemLoc sig) : L ((c : Thread nD τ), sm) = {()} := if_pos rfl
/-- The level of a barrier. -/
theorem lv_bar (c : Dev nD) (u : Unit) : lv (barCell c) u = 1 := if_pos rfl
/-- The level of a landing. -/
theorem lv_recv (i : Fin 3) (c : Dev nD) (u : Unit) : lv (recvCell i c) u = 2 := by
  dsimp only [lv]; rw [if_neg (dma_ne_bar _), which_recv]

/-- Copies are owed only to the landings at the peers. -/
theorem owedCopies_pos {c : Dev nD} {g : GSem nD τ sig} {u : Unit} (h : 0 < owedCopies c g u) :
    ∃ i, g = recvCell i (peer i c) := by
  unfold owedCopies at h
  rw [Pi.add_apply, Finsupp.add_apply, Pi.add_apply, Finsupp.add_apply, tallyAt_apply, tallyAt_apply, tallyAt_apply] at h
  by_contra hn
  rw [not_exists] at hn
  rw [if_neg (fun h' => hn 2 h'.1), if_neg (fun h' => hn 1 h'.1), if_neg (fun h' => hn 0 h'.1)] at h
  exact Nat.lt_irrefl 0 h
/-- Debts are owed only to the landings and the barriers of the peers. -/
theorem owedAll_pos {c : Dev nD} {g : GSem nD τ sig} {u : Unit} (h : 0 < owedAll c g u) :
    (∃ i, g = recvCell i (peer i c)) ∨ ∃ i, g = barCell (peer i c) := by
  by_cases h0 : 0 < owedCopies c g u
  · exact .inl (owedCopies_pos h0)
  refine .inr ?_
  unfold owedAll at h
  rw [Pi.add_apply, Finsupp.add_apply, Pi.add_apply, Finsupp.add_apply, Pi.add_apply, Finsupp.add_apply, tallyAt_apply, tallyAt_apply, tallyAt_apply,
    Nat.eq_zero_of_not_pos h0] at h
  by_contra hn
  rw [not_exists] at hn
  rw [if_neg (fun h' => hn 2 h'.1), if_neg (fun h' => hn 1 h'.1), if_neg (fun h' => hn 0 h'.1)] at h
  exact Nat.lt_irrefl 0 h

omit [FloatOps F] in
/-- A semaphore of the lowest level may be waited for at any stage of the conversation. -/
theorem mayWait_low (c : Dev nD) (q : DmaSem sig) (hq : lv ((c : Thread nD τ), .dma q) () = 0) (O : CellTallies nD τ sig Unit)
    (hO : O = owedAll c ∨ O = owedCopies c ∨ O = 0) :
    (levAts L lv : sProp 𝕄) ⊢ MayWait (c : Thread nD τ) (.dma q) () O := by
  rcases hO with rfl | rfl | rfl
  · refine MayOwe.of_cut (L := L) (lev := lv) 0 (fun p hp => by rw [Finset.mem_singleton.mp hp, L_tc]; exact Finset.mem_singleton_self _)
      (fun g u hg => by rcases owedAll_pos hg with ⟨i, rfl⟩ | ⟨i, rfl⟩ <;> exact Finset.mem_singleton_self _)
      (fun p hp => by rw [Finset.mem_singleton.mp hp]; exact hq.le)
      (fun g u hg => by
        rcases owedAll_pos hg with ⟨i, rfl⟩ | ⟨i, rfl⟩
        · rw [lv_recv]; decide
        · rw [lv_bar]; decide)
  · refine MayOwe.of_cut (L := L) (lev := lv) 0 (fun p hp => by rw [Finset.mem_singleton.mp hp, L_tc]; exact Finset.mem_singleton_self _)
      (fun g u hg => by rcases owedCopies_pos hg with ⟨i, rfl⟩; exact Finset.mem_singleton_self _)
      (fun p hp => by rw [Finset.mem_singleton.mp hp]; exact hq.le)
      (fun g u hg => by rcases owedCopies_pos hg with ⟨i, rfl⟩; rw [lv_recv]; decide)
  · rw [MayWait_zero]; iintro -; iempintro

omit [FloatOps F] in
/-- At its barrier a device owes landings only, which come later. -/
theorem mayWait_bar (c : Dev nD) :
    (levAts L lv : sProp 𝕄) ⊢ MayWait (c : Thread nD τ) (.reg barS) () (owedCopies c) :=
  MayOwe.of_cut (L := L) (lev := lv) 1 (fun p hp => by rw [Finset.mem_singleton.mp hp, L_tc]; exact Finset.mem_singleton_self _)
    (fun g u hg => by rcases owedCopies_pos hg with ⟨i, rfl⟩; exact Finset.mem_singleton_self _)
    (fun p hp => by rw [Finset.mem_singleton.mp hp]; exact (lv_bar c _).le)
    (fun g u hg => by rcases owedCopies_pos hg with ⟨i, rfl⟩; rw [lv_recv]; decide)

/-- The level of the copies out of the device's own pages. -/
theorem lv_page (i : Fin 4) (c : Dev nD) : lv ((c : Thread nD τ), .dma (pageS i)) () = 0 := by
  have h : ∀ i : Fin 4, lv ((0 : Dev nD), .dma (pageS i)) () = 0 := by decide
  exact h i

/-! ## The conversation's part of what a device starts from -/

/-- The seven semaphores of the conversation: the barrier, three departures, three landings. -/
abbrev csem : Fin 7 → SemLoc sig := fun
  | 0 => .reg barS | 1 => .dma (sendS 0) | 2 => .dma (sendS 1) | 3 => .dma (sendS 2) | 4 => .dma (recvS 0) | 5 => .dma (recvS 1) | 6 => .dma (recvS 2)
/-- The semaphore numbered `k` of device `c`. -/
abbrev kcell (ck : Dev nD × Fin 7) : GSem nD τ sig := ((ck.1 : Thread nD τ), csem ck.2)

/-- The records that device `c` opens: of its own seven semaphores, of its peers' barriers and landings. -/
def invs (K : Dev nD × Fin 7 → ℕ) (c : Dev nD) : sProp 𝕄 :=
  iprop(cellInv ER (talk ok) (K (c, 0)) (barCell c)
    ∗ cellInv ER (talk ok) (K (c, 1)) (sendCell 0 c) ∗ cellInv ER (talk ok) (K (c, 2)) (sendCell 1 c) ∗ cellInv ER (talk ok) (K (c, 3)) (sendCell 2 c)
    ∗ cellInv ER (talk ok) (K (c, 4)) (recvCell 0 c) ∗ cellInv ER (talk ok) (K (c, 5)) (recvCell 1 c) ∗ cellInv ER (talk ok) (K (c, 6)) (recvCell 2 c)
    ∗ cellInv ER (talk ok) (K (peer 0 c, 0)) (barCell (peer 0 c)) ∗ cellInv ER (talk ok) (K (peer 1 c, 0)) (barCell (peer 1 c)) ∗ cellInv ER (talk ok) (K (peer 2 c, 0)) (barCell (peer 2 c))
    ∗ cellInv ER (talk ok) (K (peer 0 c, 4)) (recvCell 0 (peer 0 c)) ∗ cellInv ER (talk ok) (K (peer 1 c, 5)) (recvCell 1 (peer 1 c)) ∗ cellInv ER (talk ok) (K (peer 2 c, 6)) (recvCell 2 (peer 2 c)))

omit [FloatOps F] in
/-- A device's records can be used any number of times. -/
instance invs_persistent (K : Dev nD × Fin 7 → ℕ) (c : Dev nD) : BI.Persistent (invs ok K c) := by unfold invs; infer_instance

/-- The marks that round 0 is open on every semaphore that device `c` pays into. -/
def marks (c : Dev nD) : sProp 𝕄 :=
  iprop(reached ER (barCell (peer 0 c)) 0 ∗ reached ER (barCell (peer 1 c)) 0 ∗ reached ER (barCell (peer 2 c)) 0
    ∗ reached ER (recvCell 0 (peer 0 c)) 0 ∗ reached ER (recvCell 1 (peer 1 c)) 0 ∗ reached ER (recvCell 2 (peer 2 c)) 0
    ∗ reached ER (sendCell 0 c) 0 ∗ reached ER (sendCell 1 c) 0 ∗ reached ER (sendCell 2 c) 0
    ∗ reached ER (recvCell 0 c) 0 ∗ reached ER (recvCell 1 c) 0 ∗ reached ER (recvCell 2 c) 0)

omit [FloatOps F] in
/-- A device's marks can be used any number of times. -/
instance marks_persistent (c : Dev nD) : BI.Persistent (marks (F := F) c) := by unfold marks; infer_instance

/-- Where device `c` stands on its seven semaphores: at the start of round 0. -/
def places (c : Dev nD) : sProp 𝕄 :=
  iprop(atPos ER (barCell c) 0 ∅ 0 ∗ atPos ER (sendCell 0 c) 0 ∅ 0 ∗ atPos ER (sendCell 1 c) 0 ∅ 0 ∗ atPos ER (sendCell 2 c) 0 ∅ 0
    ∗ atPos ER (recvCell 0 c) 0 ∅ 0 ∗ atPos ER (recvCell 1 c) 0 ∅ 0 ∗ atPos ER (recvCell 2 c) 0 ∅ 0)

/-- The tokens of the payments that device `c` makes. -/
def payToks (c : Dev nD) : sProp 𝕄 :=
  iprop(dutyTok ER (barCell (peer 0 c)) 0 0 ∗ dutyTok ER (barCell (peer 1 c)) 0 1 ∗ dutyTok ER (barCell (peer 2 c)) 0 2
    ∗ dutyTok ER (recvCell 0 (peer 0 c)) 0 0 ∗ dutyTok ER (recvCell 1 (peer 1 c)) 0 0 ∗ dutyTok ER (recvCell 2 (peer 2 c)) 0 0
    ∗ dutyTok ER (sendCell 0 c) 0 0 ∗ dutyTok ER (sendCell 1 c) 0 0 ∗ dutyTok ER (sendCell 2 c) 0 0)

/-- The credit device `c` waits with: three units on its barrier, one copy on each landing. -/
def credits (c : Dev nD) : sProp 𝕄 :=
  iprop(cred (tallyAt (barCell c) () 3) ∗ cred (tallyAt (recvCell 0 c) () N) ∗ cred (tallyAt (recvCell 1 c) () N) ∗ cred (tallyAt (recvCell 2 c) () N))

end Cert.Talk

end
-- ==== Proof.Steps.lean ====
module

public import proofs.«01_k».proof.Proof.Talk

@[expose] public section

noncomputable section

namespace Cert.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The contents of a buffer of device `c`. -/
abbrev Bf (c : Dev nD) (b : Ref sig .tc) : Type := Buf (Elt F) ((c : Thread nD τ).loc b)
/-- A buffer of device `c`, owned whole. -/
abbrev pt (c : Dev nD) {sp : Space} {S : Shape} {e : EltTy} (M : Memref sig .tc sp S e) (f : Buf (Elt F) (M.view.loc (c : Thread nD τ))) : sProp 𝕄 := M.view.loc (c : Thread nD τ) ↦{fullShare} f

/-- Raising the barrier of peer `i`: the landing place that this peer will write into goes with the raise. -/
theorem raise_peer (ok : Dev nD → Part F → Prop) (i : Fin 3) (c n : Dev nD) (hn : n = peer i c) (κ : ℕ) (O : CellTallies nD τ sig Unit) (W : Waits sig Unit)
    {α : Type} {Q : α → sProp 𝕄} {k : PUnit → Prog (TpuEff nD τ sig (Elt F) Λ₀ .tc) α} :
    iprop(cellInv ER (talk ok) κ (barCell (peer i c)) ∗ owes (c : Thread nD τ) (O + tallyAt (barCell (peer i c)) () 1) W
        ∗ dutyTok ER (barCell (peer i c)) 0 i ∗ (∃ f, slotPts (back i) c f) ∗ reached ER (recvCell (back i) c) 0 ∗ reached ER (barCell (peer i c)) 0)
      ⊢ iprop((owes (c : Thread nD τ) O W -∗ wp frame (wpE (defs₀ (F := F)) Variants.none (c : Thread nD τ) none) Set.univ (k ⟨⟩) Q)
          -∗ wp frame (wpE (defs₀ (F := F)) Variants.none (c : Thread nD τ) none) Set.univ
              (.op (.semSignal ((n, Proc.tc) : Thread nD τ) barS (1#32 : BitVec 32).toInt) k) Q) := by
  subst hn
  iintro ⟨HI, HO, Ht, Hs, Hr, Hb⟩ Hk
  iapply (Rounds.wp_signal Variants.none ER (talk ok) (c : Thread nD τ) none (dst := (peer i c : Thread nD τ)) (κ := κ) (sem := barS)
      (d := i) (by rw [duties_bar]; exact Finset.mem_univ _) (amount_bar ok (peer i c) i) () O rfl) $$ [HI HO Ht Hs Hr Hb]
  · isplitl [HI]; · iexact HI
    isplitl [HO]; · iexact HO
    isplitl [Ht]; · iexact Ht
    isplitr [Hb]
    · rw [payload_bar]; unfold barPay; rw [back_peer]
      isplitl [Hs]; · iexact Hs
      iexact Hr
    iexact Hb
  iexact Hk

/-- What the records and marks give for the raise of peer `i`'s barrier. -/
theorem raise_facts (ok : Dev nD → Part F → Prop) (K : Dev nD × Fin 7 → ℕ) (i : Fin 3) (c : Dev nD) :
    iprop(invs ok K c ∗ marks c) ⊢ iprop(cellInv ER (talk ok) (K (peer i c, 0)) (barCell (peer i c)) ∗ reached ER (recvCell (back i) c) 0
      ∗ reached ER (barCell (peer i c)) 0) := by
  unfold invs marks
  iintro ⟨⟨#HIbar, #HIs0, #HIs1, #HIs2, #HIr0, #HIr1, #HIr2, #HIb0, #HIb1, #HIb2, #HIp0, #HIp1, #HIp2⟩,
    ⟨#HRb0, #HRb1, #HRb2, #HRp0, #HRp1, #HRp2, #HRs0, #HRs1, #HRs2, #HRr0, #HRr1, #HRr2⟩⟩
  fin_cases i
  · isplitr; · iexact HIb0
    isplitr; · iexact HRr2
    iexact HRb0
  · isplitr; · iexact HIb1
    isplitr; · iexact HRr1
    iexact HRb1
  · isplitr; · iexact HIb2
    isplitr; · iexact HRr0
    iexact HRb2

/-- Raising the barrier of peer `i`, from the records and marks as they stand. -/
theorem raise (ok : Dev nD → Part F → Prop) (K : Dev nD × Fin 7 → ℕ) (i : Fin 3) (c n : Dev nD) (hn : n = peer i c) (O : CellTallies nD τ sig Unit) (W : Waits sig Unit)
    {α : Type} {Q : α → sProp 𝕄} {k : PUnit → Prog (TpuEff nD τ sig (Elt F) Λ₀ .tc) α} :
    (invs ok K c) ⊢ iprop(marks c -∗ owes (c : Thread nD τ) (O + tallyAt (barCell (peer i c)) () 1) W
        -∗ dutyTok ER (barCell (peer i c)) 0 i -∗ (∃ f, slotPts (back i) c f)
        -∗ (owes (c : Thread nD τ) O W -∗ wp frame (wpE (defs₀ (F := F)) Variants.none (c : Thread nD τ) none) Set.univ (k ⟨⟩) Q)
        -∗ wp frame (wpE (defs₀ (F := F)) Variants.none (c : Thread nD τ) none) Set.univ
              (.op (.semSignal ((n, Proc.tc) : Thread nD τ) barS (1#32 : BitVec 32).toInt) k) Q) := by
  iintro #HI #HR HO Ht Hs Hk
  ihave Hf := (raise_facts ok K i c) $$ [HI HR]
  · isplitr; · iexact HI
    iexact HR
  icases Hf with ⟨Ha, Hb, Hc⟩
  iapply (raise_peer ok i c n hn (K (peer i c, 0)) O W) $$ [HO Ht Hs Ha Hb Hc]
  · isplitl [Ha]; · iexact Ha
    isplitl [HO]; · iexact HO
    isplitl [Ht]; · iexact Ht
    isplitl [Hs]; · iexact Hs
    isplitl [Hb]; · iexact Hb
    iexact Hc
  iexact Hk

/-- While it owes the three landings a device may wait for a copy out of its own pages. -/
theorem mayPage (c : Dev nD) (i : Fin 4) (q : DmaSem sig) (hq : q = pageS i) : (levAts L lv : sProp 𝕄) ⊢ MayWait (c : Thread nD τ) (.dma q) default (owedCopies c) := by
  subst hq; exact mayWait_low c _ (lv_page i c) _ (.inr (.inl rfl))

/-- The kernel's body, on its buffers. -/
abbrev bodyProg : Prog (TpuEff nD τ sig (Elt F) Λ₀ .tc) PUnit :=
  cc0__body (Memref.whole cc0_stg0_0) (Memref.isWhole_whole _) (Memref.whole cc0_stg1_0) (Memref.isWhole_whole _) (Memref.whole cc0_stg2_0) (Memref.isWhole_whole _) (Memref.whole main_arg1) (Memref.isWhole_whole _) (Memref.whole main_arg2) (Memref.isWhole_whole _) (Memref.whole cc0_stg3_0) (Memref.isWhole_whole _) (Memref.whole cc0_scratch0) (Memref.isWhole_whole _) cc0_scratch1 (Memref.whole cc0_scratch2) (Memref.isWhole_whole _) (Memref.whole cc0_scratch3) (Memref.isWhole_whole _) (Memref.whole cc0_scratch4) (Memref.isWhole_whole _) cc0_scratch5 cc0_scratch6

/-- What is left of the body once the device has its partial result but for the last row, `v`: the conversation and the
    combination of the four partial results, up to the last wait. -/
def tailProg (c : Dev nD) (v2 v5 v8 : BitVec 32) (v : FVec F S8 .f32) : Prog (TpuEff nD τ sig (Elt F) Λ₀ .tc) PUnit := do
  let ⟨v1842, v1856⟩ : Σ' (v1842 : BitVec 32), BitVec 32 ← k0_part53 (Memref.whole cc0_stg0_0) (Memref.isWhole_whole _) (Memref.whole cc0_stg1_0) (Memref.isWhole_whole _) (Memref.whole cc0_stg2_0) (Memref.isWhole_whole _) (Memref.whole main_arg1) (Memref.isWhole_whole _) (Memref.whole main_arg2) (Memref.isWhole_whole _) (Memref.whole cc0_stg3_0) (Memref.isWhole_whole _) (Memref.whole cc0_scratch0) (Memref.isWhole_whole _) cc0_scratch1 (Memref.whole cc0_scratch2) (Memref.isWhole_whole _) (Memref.whole cc0_scratch3) (Memref.isWhole_whole _) (Memref.whole cc0_scratch4) (Memref.isWhole_whole _) cc0_scratch5 cc0_scratch6 c v2 v5 v8 (SemArray.scalar (sig.barrier 0 rfl)) v
  let v1870 : BitVec 32 ← k0_part54 (Memref.whole cc0_stg0_0) (Memref.isWhole_whole _) (Memref.whole cc0_stg1_0) (Memref.isWhole_whole _) (Memref.whole cc0_stg2_0) (Memref.isWhole_whole _) (Memref.whole main_arg1) (Memref.isWhole_whole _) (Memref.whole main_arg2) (Memref.isWhole_whole _) (Memref.whole cc0_stg3_0) (Memref.isWhole_whole _) (Memref.whole cc0_scratch0) (Memref.isWhole_whole _) cc0_scratch1 (Memref.whole cc0_scratch2) (Memref.isWhole_whole _) (Memref.whole cc0_scratch3) (Memref.isWhole_whole _) (Memref.whole cc0_scratch4) (Memref.isWhole_whole _) cc0_scratch5 cc0_scratch6 c v2 v5 v8 v1842
  let ⟨v1914, v1917⟩ : Σ' (v1914 : FVec F S3x8x8x128 .f32), FVec F S3x8x8x128 .f32 ← k0_part55 (Memref.whole cc0_stg0_0) (Memref.isWhole_whole _) (Memref.whole cc0_stg1_0) (Memref.isWhole_whole _) (Memref.whole cc0_stg2_0) (Memref.isWhole_whole _) (Memref.whole main_arg1) (Memref.isWhole_whole _) (Memref.whole main_arg2) (Memref.isWhole_whole _) (Memref.whole cc0_stg3_0) (Memref.isWhole_whole _) (Memref.whole cc0_scratch0) (Memref.isWhole_whole _) cc0_scratch1 (Memref.whole cc0_scratch2) (Memref.isWhole_whole _) (Memref.whole cc0_scratch3) (Memref.isWhole_whole _) (Memref.whole cc0_scratch4) (Memref.isWhole_whole _) cc0_scratch5 cc0_scratch6 v2 v5 v1856 v1870
  let ⟨v1920, v1923, v1934, v1956, v1960, v1964, v1966⟩ : Σ' (v1920 : FVec F S3x8x8x128 .f32) (v1923 : FVec F S3x8x8x128 .f32) (v1934 : FVec F S8x8x128 .f32) (v1956 : FVec F S8x8x128 .f32) (v1960 : FVec F S8x8x128 .f32) (v1964 : FVec F S8x8x128 .f32), FVec F S8x8x128 .f32 ← k0_part56 (Memref.whole cc0_stg0_0) (Memref.isWhole_whole _) (Memref.whole cc0_stg1_0) (Memref.isWhole_whole _) (Memref.whole cc0_stg2_0) (Memref.isWhole_whole _) (Memref.whole main_arg1) (Memref.isWhole_whole _) (Memref.whole main_arg2) (Memref.isWhole_whole _) (Memref.whole cc0_stg3_0) (Memref.isWhole_whole _) (Memref.whole cc0_scratch0) (Memref.isWhole_whole _) cc0_scratch1 (Memref.whole cc0_scratch2) (Memref.isWhole_whole _) (Memref.whole cc0_scratch3) (Memref.isWhole_whole _) (Memref.whole cc0_scratch4) (Memref.isWhole_whole _) cc0_scratch5 cc0_scratch6 v1914 v1917
  k0_part57 (Memref.whole cc0_stg0_0) (Memref.isWhole_whole _) (Memref.whole cc0_stg1_0) (Memref.isWhole_whole _) (Memref.whole cc0_stg2_0) (Memref.isWhole_whole _) (Memref.whole main_arg1) (Memref.isWhole_whole _) (Memref.whole main_arg2) (Memref.isWhole_whole _) (Memref.whole cc0_stg3_0) (Memref.isWhole_whole _) (Memref.whole cc0_scratch0) (Memref.isWhole_whole _) cc0_scratch1 (Memref.whole cc0_scratch2) (Memref.isWhole_whole _) (Memref.whole cc0_scratch3) (Memref.isWhole_whole _) (Memref.whole cc0_scratch4) (Memref.isWhole_whole _) cc0_scratch5 cc0_scratch6 v1920 v1923 v1934 v1956 v1960 v1964 v1966
  pure ⟨⟩

/-- The last wait of the body: for the copy to peer 2 to have left. -/
def lastWait : Prog (TpuEff nD τ sig (Elt F) Λ₀ .tc) PUnit := do
  Prog.lift (.waitDma2 ((cc0_scratch5.slice (Rect.unit (s := S3) ![2] S1.size inb_S3_S1_2)).squeeze S_ squeezes_S1_S_ : DmaSems sig S_).sem
    ((((Memref.whole cc0_scratch4).slice (Rect.unit (s := S3x3x8x8x128) ![2, 0, 0, 0, 0] S1x3x8x8x128.size inb_S3x3x8x8x128_S1x3x8x8x128_2_0_0_0_0) (fun _ => rfl)) : Memref sig .tc .vmem S1x3x8x8x128 .bf16).squeeze S3x8x8x128 squeezes_S1x3x8x8x128_S3x8x8x128) (Memref.whole cc0_scratch3)
    (((Memref.isWhole_whole _).wordExact_slice rfl _ wordsbf16_S3x3x8x8x128_S1x3x8x8x128_2_0_0_0_0).reshape _ _) (Memref.isWhole_whole _).wordExact)
  pure ⟨⟩

/-- What the device holds of its own buffers before and after its own part of the work: the staged arguments, its blocks of
    keys and values, the result's buffer, the ring of pages and the scores; and its four page semaphores at rest. -/
def mine (c : Dev nD) (fq : Bf (F := F) c cc0_stg0_0) (fb : Bf (F := F) c cc0_stg1_0) (fl : Bf (F := F) c cc0_stg2_0)
    (fK : Bf (F := F) c main_arg1) (fV : Bf (F := F) c main_arg2) (fo : Bf (F := F) c cc0_stg3_0)
    (fkv : Bf (F := F) c cc0_scratch0) (fs : Bf (F := F) c cc0_scratch2) : sProp 𝕄 :=
  iprop(pt c (Memref.whole cc0_stg0_0) fq ∗ pt c (Memref.whole cc0_stg1_0) fb ∗ pt c (Memref.whole cc0_stg2_0) fl ∗ pt c (Memref.whole main_arg1) fK ∗ pt c (Memref.whole main_arg2) fV ∗ pt c (Memref.whole cc0_stg3_0) fo
      ∗ pt c (Memref.whole cc0_scratch0) fkv ∗ pt c (Memref.whole cc0_scratch2) fs
      ∗ semVal ((c : Thread nD τ), .dma (⟨4, by decide⟩ : DmaSem sig)) 0 ∗ semVal ((c : Thread nD τ), .dma (⟨5, by decide⟩ : DmaSem sig)) 0
      ∗ semVal ((c : Thread nD τ), .dma (⟨6, by decide⟩ : DmaSem sig)) 0 ∗ semVal ((c : Thread nD τ), .dma (⟨7, by decide⟩ : DmaSem sig)) 0)

end Cert.Talk
end
-- ==== Proof.Sends.lean ====
/-
# The steps of the conversation

Dividing a device's share of its partial result into the three parts it lends and the one it keeps, and putting them together
again; one copy to a peer; one wait for the barrier, for a landing, for a departure; reading a landing place.

-/
module

public import proofs.«01_k».proof.Proof.Steps

@[expose] public section

noncomputable section

namespace Cert.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The partial result takes up its whole buffer. -/
theorem partM_set : (partM : Memref sig .tc .vmem S3x8x8x128 .bf16).view.set = Finset.univ := View.set_whole _

omit [FloatOps F] in
/-- A quarter of the share for every peer, and a quarter to keep. -/
theorem part_split (c : Dev nD) (f : Part F) :
    pt c partM f ⊢ iprop(partPts c (lent 0) f ∗ partPts c (lent 1) f ∗ partPts c (lent 2) f ∗ partPts c kept f) := by
  unfold partPts
  rw [partM_set]
  iintro H
  ihave H := (pointsTo_share (PosShare.mem_left_op_right fullShare)).1 $$ H
  icases H with ⟨HL, HR⟩
  ihave HL := (pointsTo_share (PosShare.mem_left_op_right fullShare.left)).1 $$ HL
  ihave HR := (pointsTo_share (PosShare.mem_left_op_right fullShare.right)).1 $$ HR
  icases HL with ⟨H0, H1⟩
  icases HR with ⟨H2, H3⟩
  isplitl [H0]; · iexact H0
  isplitl [H1]; · iexact H1
  isplitl [H2]; · iexact H2
  iexact H3

omit [FloatOps F] in
/-- Two shares of one buffer have the same contents. -/
theorem part_same (c : Dev nD) (q₁ q₂ : PosShare TreeShare) (f g : Part F) :
    iprop(partPts c q₁ f ∗ partPts c q₂ g) ⊢ iprop(⌜g = f⌝ ∗ partPts c q₁ f ∗ partPts c q₂ g) := by
  unfold partPts
  rw [partM_set]
  refine pure_elim _ pointsTo_agree fun h => ?_
  have e : g = f := funext fun i => (h i (Finset.mem_inter.mpr ⟨Finset.mem_univ i, Finset.mem_univ i⟩)).1.symm
  iintro H
  isplitr [H]
  · ipureintro; exact e
  iexact H

omit [FloatOps F] in
/-- The four quarters make the whole. -/
theorem part_join (c : Dev nD) (f : Part F) :
    iprop(home 0 c ∗ home 1 c ∗ home 2 c ∗ partPts c kept f) ⊢ pt c partM f := by
  unfold home
  iintro ⟨⟨%p0, H0⟩, ⟨%p1, H1⟩, ⟨%p2, H2⟩, H3⟩
  ihave H := (part_same c kept (lent 0) f p0) $$ [H3 H0]
  · isplitl [H3]; · iexact H3
    iexact H0
  icases H with ⟨%e0, H3, H0⟩
  ihave H := (part_same c kept (lent 1) f p1) $$ [H3 H1]
  · isplitl [H3]; · iexact H3
    iexact H1
  icases H with ⟨%e1, H3, H1⟩
  ihave H := (part_same c kept (lent 2) f p2) $$ [H3 H2]
  · isplitl [H3]; · iexact H3
    iexact H2
  icases H with ⟨%e2, H3, H2⟩
  subst e0 e1 e2
  unfold partPts
  rw [partM_set]
  ihave HL := (pointsTo_share (PosShare.mem_left_op_right fullShare.left)).2 $$ [H0 H1]
  · isplitl [H0]; · iexact H0
    iexact H1
  ihave HR := (pointsTo_share (PosShare.mem_left_op_right fullShare.right)).2 $$ [H2 H3]
  · isplitl [H2]; · iexact H2
    iexact H3
  ihave H := (pointsTo_share (PosShare.mem_left_op_right fullShare)).2 $$ [HL HR]
  · isplitl [HL]; · iexact HL
    iexact HR
  iexact H

/-- A copy into a landing place gives as many credits as any. -/
theorem slot_credit (i : Fin 3) : (slotM i).view.dmaCredit = N := by
  match i with
  | 0 => rfl
  | 1 => rfl
  | 2 => rfl

/-- A departed partial result gives back its share. -/
theorem pay_home (ok : Dev nD → Part F → Prop) (i : Fin 3) (c : Dev nD) (f : Part F) :
    partPts c (lent i) f ⊢ (talk ok).payload (sendCell i c) 0 0 := by
  rw [payload_send]; unfold home
  iintro H
  iexists f
  iexact H

/-- The three landing places, written with a right partial result. -/
theorem pay_land0 (ok : Dev nD → Part F → Prop) (c : Dev nD) (f : Part F) (hf : ok c f) (g : Buf (Elt F) ((peer 0 c : Thread nD τ).loc cc0_scratch4)) :
    slotPts 0 (peer 0 c) ((slotM 0).view.write (Elt F) g f Finset.univ) ⊢ (talk ok).payload (recvCell 0 (peer 0 c)) 0 0 := by
  rw [payload_recv]; unfold arrived landed; rw [back_peer]
  iintro H
  iexists f
  isplitr [H]
  · ipureintro; exact hf
  iexists g
  iexact H
/-- A right partial result copied into place 1 is what that landing has to bring. -/
theorem pay_land1 (ok : Dev nD → Part F → Prop) (c : Dev nD) (f : Part F) (hf : ok c f) (g : Buf (Elt F) ((peer 1 c : Thread nD τ).loc cc0_scratch4)) :
    slotPts 1 (peer 1 c) ((slotM 1).view.write (Elt F) g f Finset.univ) ⊢ (talk ok).payload (recvCell 1 (peer 1 c)) 0 0 := by
  rw [payload_recv]; unfold arrived landed; rw [back_peer]
  iintro H
  iexists f
  isplitr [H]
  · ipureintro; exact hf
  iexists g
  iexact H
/-- A right partial result copied into place 2 is what that landing has to bring. -/
theorem pay_land2 (ok : Dev nD → Part F → Prop) (c : Dev nD) (f : Part F) (hf : ok c f) (g : Buf (Elt F) ((peer 2 c : Thread nD τ).loc cc0_scratch4)) :
    slotPts 2 (peer 2 c) ((slotM 2).view.write (Elt F) g f Finset.univ) ⊢ (talk ok).payload (recvCell 2 (peer 2 c)) 0 0 := by
  rw [payload_recv]; unfold arrived landed; rw [back_peer]
  iintro H
  iexists f
  isplitr [H]
  · ipureintro; exact hf
  iexists g
  iexact H

/-- The copy to peer 0. -/
theorem send0 (ok : Dev nD → Part F → Prop) (c n : Dev nD) (hn : n = peer 0 c) (κ₁ κ₂ : ℕ) (O : CellTallies nD τ sig Unit) (W : Waits sig Unit)
    (f : Part F) (hf : ok c f) {sS sR : DmaSem sig} (hS : sS = sendS 0) (hR : sR = recvS 0)
    {hsc : (slotM 0).view.ref.isScScratch = false} {hsrc : partM.view.WordExact} {hdst : (slotM 0).view.WordExact}
    {hsem : DmaTarget.Typed .vmem (.dma sR) (.remote (Dev.tc n : Thread nD τ) (slotM 0) (.dma sS) hsc)}
    {α : Type} {Q : α → sProp 𝕄} {k : PUnit → Prog (TpuEff nD τ sig (Elt F) Λ₀ .tc) α} :
    cellInv ER (talk ok) κ₁ (sendCell 0 c) ⊢ iprop(cellInv ER (talk ok) κ₂ (recvCell 0 (peer 0 c))
        -∗ partPts c (lent 0) f -∗ (∃ g, slotPts 0 (peer 0 c) g)
        -∗ owes (c : Thread nD τ) (O + tallyAt (recvCell 0 (peer 0 c)) () N) W
        -∗ dutyTok ER (sendCell 0 c) 0 0 -∗ reached ER (sendCell 0 c) 0
        -∗ dutyTok ER (recvCell 0 (peer 0 c)) 0 0 -∗ reached ER (recvCell 0 (peer 0 c)) 0
        -∗ (cred (tallyAt (sendCell 0 c) () N) -∗ owes (c : Thread nD τ) O W -∗ wp frame (wpE (defs₀ (F := F)) Variants.none (c : Thread nD τ) none) Set.univ (k ⟨⟩) Q)
        -∗ wp frame (wpE (defs₀ (F := F)) Variants.none (c : Thread nD τ) none) Set.univ (.op (.enqueueDma partM (.remote (Dev.tc n : Thread nD τ) (slotM 0) (.dma sS) hsc) (.dma sR) hsrc hdst hsem) k) Q) := by
  subst hn hS hR
  iintro #H1 #H2 Hp ⟨%g, Hs⟩ HO Ht1 #Hr1 Ht2 #Hr2 Hk
  unfold partPts slotPts
  iapply (Rounds.wp_send_pointsTo (Q := Q) (defs := defs₀ (F := F)) (Es := Set.univ) Variants.none ER (talk ok) (c : Thread nD τ) none (c' := (peer 0 c : Thread nD τ)) (src := partM) (dst := slotM 0) (hsc := hsc) (sS := .dma (sendS 0)) (sem := .dma (recvS 0))
    (hsrc := hsrc) (hdst := hdst) (hsem := hsem) (k := k) (κ₁ := κ₁) (κ₂ := κ₂)
    (r₁ := 0) (r₂ := 0) (d₁ := 0) (d₂ := 0) (fs := f) (fd := g) (q := lent 0)
    (by rw [duties_send]; exact Finset.mem_singleton_self _) (by rw [duties_recv]; exact Finset.mem_singleton_self _)
    () () N (slot_credit 0) (amount_send ok c 0 0) (amount_recv ok (peer 0 c) 0 0) O rfl (W := W)
    (pay_home ok 0 c f) (pay_land0 ok c f hf g)) $$ [Hp Hs HO Ht1 Ht2]
  · isplitr; · iexact H1
    isplitr; · iexact H2
    isplitl [Hp]; · iexact Hp
    isplitl [Hs]; · iexact Hs
    isplitl [HO]; · iexact HO
    isplitl [Ht1]; · iexact Ht1
    isplitr; · iexact Hr1
    isplitl [Ht2]; · iexact Ht2
    iexact Hr2
  iintro ⟨Hc, HO⟩
  iapply Hk $$ Hc HO

/-- The copy to peer 1. -/
theorem send1 (ok : Dev nD → Part F → Prop) (c n : Dev nD) (hn : n = peer 1 c) (κ₁ κ₂ : ℕ) (O : CellTallies nD τ sig Unit) (W : Waits sig Unit)
    (f : Part F) (hf : ok c f) {sS sR : DmaSem sig} (hS : sS = sendS 1) (hR : sR = recvS 1)
    {hsc : (slotM 1).view.ref.isScScratch = false} {hsrc : partM.view.WordExact} {hdst : (slotM 1).view.WordExact}
    {hsem : DmaTarget.Typed .vmem (.dma sR) (.remote (Dev.tc n : Thread nD τ) (slotM 1) (.dma sS) hsc)}
    {α : Type} {Q : α → sProp 𝕄} {k : PUnit → Prog (TpuEff nD τ sig (Elt F) Λ₀ .tc) α} :
    cellInv ER (talk ok) κ₁ (sendCell 1 c) ⊢ iprop(cellInv ER (talk ok) κ₂ (recvCell 1 (peer 1 c))
        -∗ partPts c (lent 1) f -∗ (∃ g, slotPts 1 (peer 1 c) g)
        -∗ owes (c : Thread nD τ) (O + tallyAt (recvCell 1 (peer 1 c)) () N) W
        -∗ dutyTok ER (sendCell 1 c) 0 0 -∗ reached ER (sendCell 1 c) 0
        -∗ dutyTok ER (recvCell 1 (peer 1 c)) 0 0 -∗ reached ER (recvCell 1 (peer 1 c)) 0
        -∗ (cred (tallyAt (sendCell 1 c) () N) -∗ owes (c : Thread nD τ) O W -∗ wp frame (wpE (defs₀ (F := F)) Variants.none (c : Thread nD τ) none) Set.univ (k ⟨⟩) Q)
        -∗ wp frame (wpE (defs₀ (F := F)) Variants.none (c : Thread nD τ) none) Set.univ (.op (.enqueueDma partM (.remote (Dev.tc n : Thread nD τ) (slotM 1) (.dma sS) hsc) (.dma sR) hsrc hdst hsem) k) Q) := by
  subst hn hS hR
  iintro #H1 #H2 Hp ⟨%g, Hs⟩ HO Ht1 #Hr1 Ht2 #Hr2 Hk
  unfold partPts slotPts
  iapply (Rounds.wp_send_pointsTo (Q := Q) (defs := defs₀ (F := F)) (Es := Set.univ) Variants.none ER (talk ok) (c : Thread nD τ) none (c' := (peer 1 c : Thread nD τ)) (src := partM) (dst := slotM 1) (hsc := hsc) (sS := .dma (sendS 1)) (sem := .dma (recvS 1))
    (hsrc := hsrc) (hdst := hdst) (hsem := hsem) (k := k) (κ₁ := κ₁) (κ₂ := κ₂)
    (r₁ := 0) (r₂ := 0) (d₁ := 0) (d₂ := 0) (fs := f) (fd := g) (q := lent 1)
    (by rw [duties_send]; exact Finset.mem_singleton_self _) (by rw [duties_recv]; exact Finset.mem_singleton_self _)
    () () N (slot_credit 1) (amount_send ok c 1 0) (amount_recv ok (peer 1 c) 1 0) O rfl (W := W)
    (pay_home ok 1 c f) (pay_land1 ok c f hf g)) $$ [Hp Hs HO Ht1 Ht2]
  · isplitr; · iexact H1
    isplitr; · iexact H2
    isplitl [Hp]; · iexact Hp
    isplitl [Hs]; · iexact Hs
    isplitl [HO]; · iexact HO
    isplitl [Ht1]; · iexact Ht1
    isplitr; · iexact Hr1
    isplitl [Ht2]; · iexact Ht2
    iexact Hr2
  iintro ⟨Hc, HO⟩
  iapply Hk $$ Hc HO

/-- The copy to peer 2. -/
theorem send2 (ok : Dev nD → Part F → Prop) (c n : Dev nD) (hn : n = peer 2 c) (κ₁ κ₂ : ℕ) (O : CellTallies nD τ sig Unit) (W : Waits sig Unit)
    (f : Part F) (hf : ok c f) {sS sR : DmaSem sig} (hS : sS = sendS 2) (hR : sR = recvS 2)
    {hsc : (slotM 2).view.ref.isScScratch = false} {hsrc : partM.view.WordExact} {hdst : (slotM 2).view.WordExact}
    {hsem : DmaTarget.Typed .vmem (.dma sR) (.remote (Dev.tc n : Thread nD τ) (slotM 2) (.dma sS) hsc)}
    {α : Type} {Q : α → sProp 𝕄} {k : PUnit → Prog (TpuEff nD τ sig (Elt F) Λ₀ .tc) α} :
    cellInv ER (talk ok) κ₁ (sendCell 2 c) ⊢ iprop(cellInv ER (talk ok) κ₂ (recvCell 2 (peer 2 c))
        -∗ partPts c (lent 2) f -∗ (∃ g, slotPts 2 (peer 2 c) g)
        -∗ owes (c : Thread nD τ) (O + tallyAt (recvCell 2 (peer 2 c)) () N) W
        -∗ dutyTok ER (sendCell 2 c) 0 0 -∗ reached ER (sendCell 2 c) 0
        -∗ dutyTok ER (recvCell 2 (peer 2 c)) 0 0 -∗ reached ER (recvCell 2 (peer 2 c)) 0
        -∗ (cred (tallyAt (sendCell 2 c) () N) -∗ owes (c : Thread nD τ) O W -∗ wp frame (wpE (defs₀ (F := F)) Variants.none (c : Thread nD τ) none) Set.univ (k ⟨⟩) Q)
        -∗ wp frame (wpE (defs₀ (F := F)) Variants.none (c : Thread nD τ) none) Set.univ (.op (.enqueueDma partM (.remote (Dev.tc n : Thread nD τ) (slotM 2) (.dma sS) hsc) (.dma sR) hsrc hdst hsem) k) Q) := by
  subst hn hS hR
  iintro #H1 #H2 Hp ⟨%g, Hs⟩ HO Ht1 #Hr1 Ht2 #Hr2 Hk
  unfold partPts slotPts
  iapply (Rounds.wp_send_pointsTo (Q := Q) (defs := defs₀ (F := F)) (Es := Set.univ) Variants.none ER (talk ok) (c : Thread nD τ) none (c' := (peer 2 c : Thread nD τ)) (src := partM) (dst := slotM 2) (hsc := hsc) (sS := .dma (sendS 2)) (sem := .dma (recvS 2))
    (hsrc := hsrc) (hdst := hdst) (hsem := hsem) (k := k) (κ₁ := κ₁) (κ₂ := κ₂)
    (r₁ := 0) (r₂ := 0) (d₁ := 0) (d₂ := 0) (fs := f) (fd := g) (q := lent 2)
    (by rw [duties_send]; exact Finset.mem_singleton_self _) (by rw [duties_recv]; exact Finset.mem_singleton_self _)
    () () N (slot_credit 2) (amount_send ok c 2 0) (amount_recv ok (peer 2 c) 2 0) O rfl (W := W)
    (pay_home ok 2 c f) (pay_land2 ok c f hf g)) $$ [Hp Hs HO Ht1 Ht2]
  · isplitr; · iexact H1
    isplitr; · iexact H2
    isplitl [Hp]; · iexact Hp
    isplitl [Hs]; · iexact Hs
    isplitl [HO]; · iexact HO
    isplitl [Ht1]; · iexact Ht1
    isplitr; · iexact Hr1
    isplitl [Ht2]; · iexact Ht2
    iexact Hr2
  iintro ⟨Hc, HO⟩
  iapply Hk $$ Hc HO

/-- The wait for a landing: the place and what has come into it; the semaphore is at rest again. -/
theorem wait_recv (ok : Dev nD → Part F → Prop) (i : Fin 3) (c : Dev nD) (κ : ℕ) (W : Waits sig Unit) {sem : DmaSem sig} (hs : sem = recvS i)
    {src dst : Memref sig .tc .vmem S3x8x8x128 .bf16} (hN : dst.view.dmaCredit = N) {hsrc : src.view.WordExact} {hdst : dst.view.WordExact}
    {α : Type} {Q : α → sProp 𝕄} {k : PUnit → Prog (TpuEff nD τ sig (Elt F) Λ₀ .tc) α} :
    cellInv ER (talk ok) κ (recvCell i c) ⊢ iprop(cred (tallyAt (recvCell i c) () N) -∗ owes (c : Thread nD τ) 0 W -∗ atPos ER (recvCell i c) 0 ∅ 0
        -∗ ((∃ W', owes (c : Thread nD τ) 0 W') -∗ semVal (recvCell i c) 0 -∗ arrived ok i c -∗ wp frame (wpE (defs₀ (F := F)) Variants.none (c : Thread nD τ) none) Set.univ (k ⟨⟩) Q)
        -∗ wp frame (wpE (defs₀ (F := F)) Variants.none (c : Thread nD τ) none) Set.univ (.op (.waitDma2 sem src dst hsrc hdst) k) Q) := by
  subst hs
  iintro #HI Hc HO Hat Hk
  iapply (Rounds.wp_wait_rest_token Variants.none ER (talk ok) (c : Thread nD τ) none (κ := κ) (k' := N)
      (fun K => by rw [← hN]; exact wpE_waitDma2_eq Variants.none (c : Thread nD τ) none Set.univ K) (Set.mem_univ _) () (O := 0) (W := W) (R := 0) (m := 0) (T := ∅)
      (by rw [Nat.zero_add, expect_recv])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_recv ok c i)) $$ Hpay
  imod (Rounds.cell_close ER (talk ok) (Set.mem_univ κ) (fun h => h) (R := 0 + 1) (duties_later ok (recvCell i c))) $$ [Hat] with Hz
  · isplitr; · iexact HI
    iexact Hat
  ihave HW : iprop(∃ W', owes (c : Thread nD τ) 0 W') $$ [HO]
  · iexists _
    iexact HO
  iapply Hk $$ HW Hz Hp

/-- The wait for a departure: the share comes back; the semaphore is at rest again. -/
theorem wait_send (ok : Dev nD → Part F → Prop) (i : Fin 3) (c : Dev nD) (κ : ℕ) (W : Waits sig Unit) {sem : DmaSem sig} (hs : sem = sendS i)
    {src dst : Memref sig .tc .vmem S3x8x8x128 .bf16} (hN : dst.view.dmaCredit = N) {hsrc : src.view.WordExact} {hdst : dst.view.WordExact}
    {α : Type} {Q : α → sProp 𝕄} {k : PUnit → Prog (TpuEff nD τ sig (Elt F) Λ₀ .tc) α} :
    cellInv ER (talk ok) κ (sendCell i c) ⊢ iprop(cred (tallyAt (sendCell i c) () N) -∗ owes (c : Thread nD τ) 0 W -∗ atPos ER (sendCell i c) 0 ∅ 0
        -∗ ((∃ W', owes (c : Thread nD τ) 0 W') -∗ semVal (sendCell i c) 0 -∗ home i c -∗ wp frame (wpE (defs₀ (F := F)) Variants.none (c : Thread nD τ) none) Set.univ (k ⟨⟩) Q)
        -∗ wp frame (wpE (defs₀ (F := F)) Variants.none (c : Thread nD τ) none) Set.univ (.op (.waitDma2 sem src dst hsrc hdst) k) Q) := by
  subst hs
  iintro #HI Hc HO Hat Hk
  iapply (Rounds.wp_wait_rest_token Variants.none ER (talk ok) (c : Thread nD τ) none (κ := κ) (k' := N)
      (fun K => by rw [← hN]; exact wpE_waitDma2_eq Variants.none (c : Thread nD τ) none Set.univ K) (Set.mem_univ _) () (O := 0) (W := W) (R := 0) (m := 0) (T := ∅)
      (by rw [Nat.zero_add, expect_send])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_send ok c i)) $$ Hpay
  imod (Rounds.cell_close ER (talk ok) (Set.mem_univ κ) (fun h => h) (R := 0 + 1) (duties_later ok (sendCell i c))) $$ [Hat] with Hz
  · isplitr; · iexact HI
    iexact Hat
  ihave HW : iprop(∃ W', owes (c : Thread nD τ) 0 W') $$ [HO]
  · iexists _
    iexact HO
  iapply Hk $$ HW Hz Hp

omit [FloatOps F] in
/-- The three raises of a barrier, with the peers named. -/
theorem bar_pays (c : Dev nD) : (iprop(barPay 0 c ∗ barPay 1 c ∗ barPay 2 c) : sProp 𝕄)
    = iprop(((∃ g, slotPts 2 (peer 2 c) g) ∗ reached ER (recvCell 2 (peer 2 c)) 0)
      ∗ ((∃ g, slotPts 1 (peer 1 c) g) ∗ reached ER (recvCell 1 (peer 1 c)) 0)
      ∗ ((∃ g, slotPts 0 (peer 0 c) g) ∗ reached ER (recvCell 0 (peer 0 c)) 0)) := rfl

/-- The wait at the barrier: the three landing places of the peers; the barrier is at rest again. -/
theorem wait_bar (ok : Dev nD → Part F → Prop) (c : Dev nD) (κ : ℕ) (W : Waits sig Unit)
    {α : Type} {Q : α → sProp 𝕄} {k : PUnit → Prog (TpuEff nD τ sig (Elt F) Λ₀ .tc) α} :
    cellInv ER (talk ok) κ (barCell c) ⊢ iprop(cred (tallyAt (barCell c) () 3) -∗ owes (c : Thread nD τ) (owedCopies c) W -∗ atPos ER (barCell c) 0 ∅ 0 -∗ levAts L lv
        -∗ ((∃ W', owes (c : Thread nD τ) (owedCopies c) W') -∗ semVal (barCell c) 0
          -∗ (∃ g, slotPts 2 (peer 2 c) g) -∗ (∃ g, slotPts 1 (peer 1 c) g) -∗ (∃ g, slotPts 0 (peer 0 c) g) -∗ wp frame (wpE (defs₀ (F := F)) Variants.none (c : Thread nD τ) none) Set.univ (k ⟨⟩) Q)
        -∗ wp frame (wpE (defs₀ (F := F)) Variants.none (c : Thread nD τ) none) Set.univ (.op (.semWait barS (3#32 : BitVec 32).toInt.toNat) k) Q) := by
  iintro #HI Hc HO Hat #Hlev Hk
  iapply (Rounds.wp_wait_rest_token Variants.none ER (talk ok) (c : Thread nD τ) none (κ := κ) (k' := 3)
      (wpE_semWait_eq Variants.none (c : Thread nD τ) none Set.univ) (Set.mem_univ _) () (O := owedCopies c) (W := W) (R := 0) (m := 0) (T := ∅)
      (by rw [Nat.zero_add, expect_bar])) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  ihave Hp := (Entails.of_eq ((rest_bar ok c).trans (bar_pays c))) $$ Hpay
  icases Hp with ⟨⟨H2, -⟩, ⟨H1, -⟩, ⟨H0, -⟩⟩
  imod (Rounds.cell_close ER (talk ok) (Set.mem_univ κ) (fun h => h) (R := 0 + 1) (duties_later ok (barCell c))) $$ [Hat] with Hz
  · isplitr; · iexact HI
    iexact Hat
  ihave HW : iprop(∃ W', owes (c : Thread nD τ) (owedCopies c) W') $$ [HO]
  · iexists _
    iexact HO
  iapply Hk $$ HW Hz H2 H1 H0

/-! ## Reading a landing place -/

/-- A landed partial result as a load of its place gives it. -/
def asLanded (p : Part F) : Vec F S1x3x8x8x128 .bf16 := fun i => p (fun
  | 0 => i 1
  | 1 => i 2
  | 2 => i 3
  | 3 => i 4)

omit [FloatOps F] in
/-- What a load of landing place 0 reads after `p` has landed. -/
theorem read_slot0 (f : (cc0_scratch4 : Ref sig .tc).ty.Contents (Elt F)) (p : Part F) :
    commM.view.readAt (Elt F) (Rect.unit (s := S3x3x8x8x128) ![0, 0, 0, 0, 0] S1x3x8x8x128.size inb_S3x3x8x8x128_S1x3x8x8x128_0_0_0_0_0).toLoadRect ((slotM 0).view.write (Elt F) f p Finset.univ) = asLanded p := by
  funext i
  let y : S3x8x8x128.Idx := fun
    | 0 => i 1
    | 1 => i 2
    | 2 => i 3
    | 3 => i 4
  show commM.view.read (Elt F) _ ((Rect.unit (s := S3x3x8x8x128) ![0, 0, 0, 0, 0] S1x3x8x8x128.size inb_S3x3x8x8x128_S1x3x8x8x128_0_0_0_0_0).idx i) = p y
  have h := congrFun (View.read_write_univ (v := (slotM 0).view) (Val := Elt F) f p) y
  refine Eq.trans ?_ h
  refine congrArg ((slotM 0).view.write (Elt F) f p Finset.univ) ?_
  show (Rect.unit (s := S3x3x8x8x128) ![0, 0, 0, 0, 0] S1x3x8x8x128.size inb_S3x3x8x8x128_S1x3x8x8x128_0_0_0_0_0).idx i = (Rect.unit (s := S3x3x8x8x128) ![0, 0, 0, 0, 0] S1x3x8x8x128.size inb_S3x3x8x8x128_S1x3x8x8x128_0_0_0_0_0).idx (Shape.reshapeEquiv _ y)
  refine congrArg (Rect.unit (s := S3x3x8x8x128) ![0, 0, 0, 0, 0] S1x3x8x8x128.size inb_S3x3x8x8x128_S1x3x8x8x128_0_0_0_0_0).idx ?_
  have h1 := Shape.reshapeEquiv_cons_one (n := 4) (d := ![3, 8, 8, 128]) squeezes_S1x3x8x8x128_S3x8x8x128.numel_eq y
  refine Eq.trans ?_ h1.symm
  funext a
  refine Fin.cases ?_ (fun b => ?_) a
  · exact Fin.ext (by have : (i 0).val < 1 := (i 0).isLt; show (i 0).val = 0; omega)
  · fin_cases b <;> rfl

/-- The entries of landing place 0. -/
theorem slot_set0 : (slotM 0).view.set = commM.view.setOn (Rect.unit (s := S3x3x8x8x128) ![0, 0, 0, 0, 0] S1x3x8x8x128.size inb_S3x3x8x8x128_S1x3x8x8x128_0_0_0_0_0).set :=
  (View.set_reshape _ _).trans (View.set_slice _ _)

/-- Loading landing place 0 after `p` has landed. -/
theorem load_slot0 (c : Dev nD) (p : Part F) {hl : commM.view.LoadsAt (Rect.unit (s := S3x3x8x8x128) ![0, 0, 0, 0, 0] S1x3x8x8x128.size inb_S3x3x8x8x128_S1x3x8x8x128_0_0_0_0_0).toLoadRect}
    {α : Type} {Q : α → sProp 𝕄} {k : Vec F S1x3x8x8x128 .bf16 → Prog (TpuEff nD τ sig (Elt F) Λ₀ .tc) α} :
    ⊢ iprop(landed 0 c p -∗ (landed 0 c p -∗ wp frame (wpE (defs₀ (F := F)) Variants.none (c : Thread nD τ) none) Set.univ (k (asLanded p)) Q)
      -∗ wp frame (wpE (defs₀ (F := F)) Variants.none (c : Thread nD τ) none) Set.univ (.op (.load commM (Rect.unit (s := S3x3x8x8x128) ![0, 0, 0, 0, 0] S1x3x8x8x128.size inb_S3x3x8x8x128_S1x3x8x8x128_0_0_0_0_0).toLoadRect hl) k) Q) := by
  unfold landed slotPts
  iintro ⟨%f, H⟩ Hk
  iapply (wp_load Variants.none (c : Thread nD τ) none Set.univ (m := commM) (by rw [slot_set0])) $$ H
  iintro H
  rw [read_slot0]
  iapply Hk
  iexists f
  iexact H

omit [FloatOps F] in
/-- What a load of landing place 1 reads after `p` has landed. -/
theorem read_slot1 (f : (cc0_scratch4 : Ref sig .tc).ty.Contents (Elt F)) (p : Part F) :
    commM.view.readAt (Elt F) (Rect.unit (s := S3x3x8x8x128) ![1, 0, 0, 0, 0] S1x3x8x8x128.size inb_S3x3x8x8x128_S1x3x8x8x128_1_0_0_0_0).toLoadRect ((slotM 1).view.write (Elt F) f p Finset.univ) = asLanded p := by
  funext i
  let y : S3x8x8x128.Idx := fun
    | 0 => i 1
    | 1 => i 2
    | 2 => i 3
    | 3 => i 4
  show commM.view.read (Elt F) _ ((Rect.unit (s := S3x3x8x8x128) ![1, 0, 0, 0, 0] S1x3x8x8x128.size inb_S3x3x8x8x128_S1x3x8x8x128_1_0_0_0_0).idx i) = p y
  have h := congrFun (View.read_write_univ (v := (slotM 1).view) (Val := Elt F) f p) y
  refine Eq.trans ?_ h
  refine congrArg ((slotM 1).view.write (Elt F) f p Finset.univ) ?_
  show (Rect.unit (s := S3x3x8x8x128) ![1, 0, 0, 0, 0] S1x3x8x8x128.size inb_S3x3x8x8x128_S1x3x8x8x128_1_0_0_0_0).idx i = (Rect.unit (s := S3x3x8x8x128) ![1, 0, 0, 0, 0] S1x3x8x8x128.size inb_S3x3x8x8x128_S1x3x8x8x128_1_0_0_0_0).idx (Shape.reshapeEquiv _ y)
  refine congrArg (Rect.unit (s := S3x3x8x8x128) ![1, 0, 0, 0, 0] S1x3x8x8x128.size inb_S3x3x8x8x128_S1x3x8x8x128_1_0_0_0_0).idx ?_
  have h1 := Shape.reshapeEquiv_cons_one (n := 4) (d := ![3, 8, 8, 128]) squeezes_S1x3x8x8x128_S3x8x8x128.numel_eq y
  refine Eq.trans ?_ h1.symm
  funext a
  refine Fin.cases ?_ (fun b => ?_) a
  · exact Fin.ext (by have : (i 0).val < 1 := (i 0).isLt; show (i 0).val = 0; omega)
  · fin_cases b <;> rfl

/-- The entries of landing place 1. -/
theorem slot_set1 : (slotM 1).view.set = commM.view.setOn (Rect.unit (s := S3x3x8x8x128) ![1, 0, 0, 0, 0] S1x3x8x8x128.size inb_S3x3x8x8x128_S1x3x8x8x128_1_0_0_0_0).set :=
  (View.set_reshape _ _).trans (View.set_slice _ _)

/-- Loading landing place 1 after `p` has landed. -/
theorem load_slot1 (c : Dev nD) (p : Part F) {hl : commM.view.LoadsAt (Rect.unit (s := S3x3x8x8x128) ![1, 0, 0, 0, 0] S1x3x8x8x128.size inb_S3x3x8x8x128_S1x3x8x8x128_1_0_0_0_0).toLoadRect}
    {α : Type} {Q : α → sProp 𝕄} {k : Vec F S1x3x8x8x128 .bf16 → Prog (TpuEff nD τ sig (Elt F) Λ₀ .tc) α} :
    ⊢ iprop(landed 1 c p -∗ (landed 1 c p -∗ wp frame (wpE (defs₀ (F := F)) Variants.none (c : Thread nD τ) none) Set.univ (k (asLanded p)) Q)
      -∗ wp frame (wpE (defs₀ (F := F)) Variants.none (c : Thread nD τ) none) Set.univ (.op (.load commM (Rect.unit (s := S3x3x8x8x128) ![1, 0, 0, 0, 0] S1x3x8x8x128.size inb_S3x3x8x8x128_S1x3x8x8x128_1_0_0_0_0).toLoadRect hl) k) Q) := by
  unfold landed slotPts
  iintro ⟨%f, H⟩ Hk
  iapply (wp_load Variants.none (c : Thread nD τ) none Set.univ (m := commM) (by rw [slot_set1])) $$ H
  iintro H
  rw [read_slot1]
  iapply Hk
  iexists f
  iexact H

omit [FloatOps F] in
/-- What a load of landing place 2 reads after `p` has landed. -/
theorem read_slot2 (f : (cc0_scratch4 : Ref sig .tc).ty.Contents (Elt F)) (p : Part F) :
    commM.view.readAt (Elt F) (Rect.unit (s := S3x3x8x8x128) ![2, 0, 0, 0, 0] S1x3x8x8x128.size inb_S3x3x8x8x128_S1x3x8x8x128_2_0_0_0_0).toLoadRect ((slotM 2).view.write (Elt F) f p Finset.univ) = asLanded p := by
  funext i
  let y : S3x8x8x128.Idx := fun
    | 0 => i 1
    | 1 => i 2
    | 2 => i 3
    | 3 => i 4
  show commM.view.read (Elt F) _ ((Rect.unit (s := S3x3x8x8x128) ![2, 0, 0, 0, 0] S1x3x8x8x128.size inb_S3x3x8x8x128_S1x3x8x8x128_2_0_0_0_0).idx i) = p y
  have h := congrFun (View.read_write_univ (v := (slotM 2).view) (Val := Elt F) f p) y
  refine Eq.trans ?_ h
  refine congrArg ((slotM 2).view.write (Elt F) f p Finset.univ) ?_
  show (Rect.unit (s := S3x3x8x8x128) ![2, 0, 0, 0, 0] S1x3x8x8x128.size inb_S3x3x8x8x128_S1x3x8x8x128_2_0_0_0_0).idx i = (Rect.unit (s := S3x3x8x8x128) ![2, 0, 0, 0, 0] S1x3x8x8x128.size inb_S3x3x8x8x128_S1x3x8x8x128_2_0_0_0_0).idx (Shape.reshapeEquiv _ y)
  refine congrArg (Rect.unit (s := S3x3x8x8x128) ![2, 0, 0, 0, 0] S1x3x8x8x128.size inb_S3x3x8x8x128_S1x3x8x8x128_2_0_0_0_0).idx ?_
  have h1 := Shape.reshapeEquiv_cons_one (n := 4) (d := ![3, 8, 8, 128]) squeezes_S1x3x8x8x128_S3x8x8x128.numel_eq y
  refine Eq.trans ?_ h1.symm
  funext a
  refine Fin.cases ?_ (fun b => ?_) a
  · exact Fin.ext (by have : (i 0).val < 1 := (i 0).isLt; show (i 0).val = 0; omega)
  · fin_cases b <;> rfl

/-- The entries of landing place 2. -/
theorem slot_set2 : (slotM 2).view.set = commM.view.setOn (Rect.unit (s := S3x3x8x8x128) ![2, 0, 0, 0, 0] S1x3x8x8x128.size inb_S3x3x8x8x128_S1x3x8x8x128_2_0_0_0_0).set :=
  (View.set_reshape _ _).trans (View.set_slice _ _)

/-- Loading landing place 2 after `p` has landed. -/
theorem load_slot2 (c : Dev nD) (p : Part F) {hl : commM.view.LoadsAt (Rect.unit (s := S3x3x8x8x128) ![2, 0, 0, 0, 0] S1x3x8x8x128.size inb_S3x3x8x8x128_S1x3x8x8x128_2_0_0_0_0).toLoadRect}
    {α : Type} {Q : α → sProp 𝕄} {k : Vec F S1x3x8x8x128 .bf16 → Prog (TpuEff nD τ sig (Elt F) Λ₀ .tc) α} :
    ⊢ iprop(landed 2 c p -∗ (landed 2 c p -∗ wp frame (wpE (defs₀ (F := F)) Variants.none (c : Thread nD τ) none) Set.univ (k (asLanded p)) Q)
      -∗ wp frame (wpE (defs₀ (F := F)) Variants.none (c : Thread nD τ) none) Set.univ (.op (.load commM (Rect.unit (s := S3x3x8x8x128) ![2, 0, 0, 0, 0] S1x3x8x8x128.size inb_S3x3x8x8x128_S1x3x8x8x128_2_0_0_0_0).toLoadRect hl) k) Q) := by
  unfold landed slotPts
  iintro ⟨%f, H⟩ Hk
  iapply (wp_load Variants.none (c : Thread nD τ) none Set.univ (m := commM) (by rw [slot_set2])) $$ H
  iintro H
  rw [read_slot2]
  iapply Hk
  iexists f
  iexact H

end Cert.Talk
end
-- ==== Proof.Rows.lean ====
/-
# The partial result, row by row

A device packs its partial result into a buffer of 3 × 8 × 8 × 128 numbers: for every head the weighted sum of the values, the
maximum of the scores and the sum of the weights, each a block of 8 × 128 numbers. A block is stored as one half of a pair of rows:
the pair is read, one half replaced, the pair written back.

`partHas c rows` says that device `c` holds its buffer and that the blocks listed in `rows` stand in it. Every store adds one block
to the list; what the buffer held at first is in no block of it.
-/
module

public import proofs.«01_k».proof.Proof.Steps

@[expose] public section

noncomputable section

namespace Cert.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- One block of the partial result: 8 × 128 numbers. -/
abbrev Block (F : FTy → Type) : Type := Vec F S1x8x1x128 .bf16

/-- Where entry `i` of the block of kind `k` and head `h` stands. -/
def cellIx (k : Fin 3) (h : Fin 8) (i : S1x8x1x128.Idx) : S3x8x8x128.Idx
  | 0 => k
  | 1 => i 1
  | 2 => h
  | 3 => i 3

/-- The block of kind `k` and head `h` in the contents `f`. -/
def blockOf (k : Fin 3) (h : Fin 8) (f : Part F) : Block F := fun i => partM.view.read (Elt F) f (cellIx k h i)

omit [FloatOps F] in
/-- Storing block `(k, h)` sets that block and leaves every other one. -/
theorem blockOf_store (k : Fin 3) (h : Fin 8) {off : Fin 4 → ℕ} (hoff : off = ![k.val, 0, 2 * (h.val / 2), 0]) (inb)
    {st : Fin 4 → ℕ} (hst : st = ![0, 0, h.val % 2, 0]) (sl) (pay : Block F) (f : Part F) (k' : Fin 3) (h' : Fin 8) :
    blockOf k' h' ((partM.access (Rect.unit (s := S3x8x8x128) off S1x8x2x128.size inb)).write (Elt F) f
      (updateSlice (s := S1x8x2x128) (u := S1x8x1x128) (partM.view.readAt (Elt F) (Rect.unit (s := S3x8x8x128) off S1x8x2x128.size inb).toLoadRect f) pay st sl) Finset.univ)
      = if k' = k ∧ h' = h then pay else blockOf k' h' f := by
  subst hoff hst
  funext i
  have i0 : (i 0).val = 0 := by have : (i 0).val < 1 := (i 0).isLt; omega
  have i2 : (i 2).val = 0 := by have : (i 2).val < 1 := (i 2).isLt; omega
  by_cases hin : k' = k ∧ h'.val / 2 = h.val / 2
  · obtain ⟨rfl, hh⟩ := hin
    let y : (Rect.unit (s := S3x8x8x128) ![k'.val, 0, 2 * (h.val / 2), 0] S1x8x2x128.size inb).shape.Idx := fun
      | 0 => i 0
      | 1 => i 1
      | 2 => (⟨h'.val % 2, Nat.mod_lt _ (by omega)⟩ : Fin 2)
      | 3 => i 3
    have hy : (Rect.unit (s := S3x8x8x128) ![k'.val, 0, 2 * (h.val / 2), 0] S1x8x2x128.size inb).emb y = cellIx k' h' i := by
      funext a
      apply Fin.ext
      show (![k'.val, 0, 2 * (h.val / 2), 0] : Fin 4 → ℕ) a + 1 * (y a).val = (cellIx k' h' i a).val
      rw [Nat.one_mul]
      fin_cases a
      · show k'.val + (i 0).val = k'.val
        omega
      · show 0 + (i 1).val = (i 1).val
        omega
      · show 2 * (h.val / 2) + h'.val % 2 = h'.val
        omega
      · show 0 + (i 3).val = (i 3).val
        omega
    unfold blockOf
    rw [← hy]
    refine (View.read_slice_write_emb _ _ _ (Finset.mem_univ y)).trans ?_
    unfold updateSlice
    by_cases he : h' = h
    · subst he
      rw [dif_pos, if_pos ⟨rfl, rfl⟩]
      · refine congrArg pay ?_
        funext a
        apply Fin.ext
        fin_cases a
        · show (i 0).val - 0 = (i 0).val
          omega
        · show (i 1).val - 0 = (i 1).val
          omega
        · show h'.val % 2 - h'.val % 2 = (i 2).val
          omega
        · show (i 3).val - 0 = (i 3).val
          omega
      · intro a
        fin_cases a
        · exact ⟨Nat.zero_le _, by show (i 0).val < 0 + 1; omega⟩
        · exact ⟨Nat.zero_le _, by show (i 1).val < 0 + 8; have : (i 1).val < 8 := (i 1).isLt; omega⟩
        · exact ⟨Nat.le_refl _, by show h'.val % 2 < h'.val % 2 + 1; omega⟩
        · exact ⟨Nat.zero_le _, by show (i 3).val < 0 + 128; have : (i 3).val < 128 := (i 3).isLt; omega⟩
    · rw [dif_neg, if_neg (fun hc => he hc.2)]
      · exact congrArg (partM.view.read (Elt F) f) hy
      · intro hall
        have h2 := hall 2
        have h2a : h.val % 2 ≤ h'.val % 2 := h2.1
        have h2b : h'.val % 2 < h.val % 2 + 1 := h2.2
        exact he (Fin.ext (by omega))
  · rw [if_neg (fun hc => hin ⟨hc.1, by rw [hc.2]⟩)]
    refine View.read_slice_write_of_not_mem _ _ _ _ ?_
    rw [Rect.map_emb_univ, Rect.mem_set_unit]
    intro hall
    have h0 := hall 0
    have h0a : k.val ≤ k'.val := h0.1
    have h0b : k'.val < k.val + 1 := h0.2
    have h2 := hall 2
    have h2a : 2 * (h.val / 2) ≤ h'.val := h2.1
    have h2b : h'.val < 2 * (h.val / 2) + 2 := h2.2
    exact hin ⟨Fin.ext (by omega), by omega⟩

/-- A list of blocks, each with its kind and its head. -/
abbrev Rows (F : FTy → Type) : Type := List ((Fin 3 × Fin 8) × Block F)

/-- Device `c` holds its buffer and the listed blocks stand in it, the first in the list where two have the same place. -/
def partHas (c : Dev nD) (rows : Rows F) : sProp 𝕄 :=
  iprop(∃ f : Part F, ⌜∀ x v, rows.lookup x = some v → blockOf x.1 x.2 f = v⌝ ∗ pt c partM f)

omit [FloatOps F] in
/-- At first no block is known. -/
theorem partHas_nil (c : Dev nD) (f : Part F) : pt c partM f ⊢ partHas c ([] : Rows F) := by
  unfold partHas
  iintro H
  iexists f
  isplitr [H]
  · ipureintro; intro x v hx; cases hx
  iexact H

/-- Reading any part of the buffer changes nothing. -/
theorem partHas_load (c : Dev nD) (rows : Rows F) {α : Type} {Q : α → sProp 𝕄} {r : LoadRect S3x8x8x128} {hl : partM.view.LoadsAt r}
    {k : (r.shape.Idx → Elt F .bf16) → Prog (TpuEff nD τ sig (Elt F) Λ₀ .tc) α} :
    ⊢ iprop(partHas c rows -∗ (∀ x, partHas c rows -∗ wp frame (wpE (defs₀ (F := F)) Variants.none (c : Thread nD τ) none) Set.univ (k x) Q)
      -∗ wp frame (wpE (defs₀ (F := F)) Variants.none (c : Thread nD τ) none) Set.univ (.op (.load partM r hl) k) Q) := by
  unfold partHas
  iintro ⟨%f, %hf, H⟩ Hk
  iapply (wp_load Variants.none (c : Thread nD τ) none Set.univ (Finset.subset_univ _)) $$ H
  iintro H
  iapply Hk
  iexists f
  isplitr [H]
  · ipureintro; exact hf
  iexact H

/-- Storing a block puts it in front of the list. -/
theorem partHas_store (c : Dev nD) (rows : Rows F) (k : Fin 3) (h : Fin 8) {off : Fin 4 → ℕ} (hoff : off = ![k.val, 0, 2 * (h.val / 2), 0]) {inb}
    {st : Fin 4 → ℕ} (hst : st = ![0, 0, h.val % 2, 0]) {sl} {pay : Block F}
    {α : Type} {Q : α → sProp 𝕄} {hl hs hm}
    {K : PUnit → Prog (TpuEff nD τ sig (Elt F) Λ₀ .tc) α} :
    ⊢ iprop(partHas c rows -∗ (partHas c (((k, h), pay) :: rows) -∗ wp frame (wpE (defs₀ (F := F)) Variants.none (c : Thread nD τ) none) Set.univ (K ⟨⟩) Q)
      -∗ wp frame (wpE (defs₀ (F := F)) Variants.none (c : Thread nD τ) none) Set.univ
        (.op (.load partM (Rect.unit (s := S3x8x8x128) off S1x8x2x128.size inb).toLoadRect hl) fun old =>
          .op (.store partM (Rect.unit (s := S3x8x8x128) off S1x8x2x128.size inb)
            (updateSlice (s := S1x8x2x128) (u := S1x8x1x128) old pay st sl) Finset.univ hs hm) K) Q) := by
  unfold partHas
  iintro ⟨%f, %hf, H⟩ Hk
  iapply (wp_load Variants.none (c : Thread nD τ) none Set.univ (Finset.subset_univ _)) $$ H
  iintro H
  iapply (wp_store (m := partM) (r := Rect.unit (s := S3x8x8x128) off S1x8x2x128.size inb) (f := f) Variants.none (c : Thread nD τ) none Set.univ (Finset.subset_univ _)) $$ H
  iintro H
  iapply Hk
  iexists _
  isplitr [H]
  rotate_left
  · iexact H
  · ipureintro
    intro x v hx
    rw [blockOf_store k h hoff inb hst sl pay f]
    rw [List.lookup_cons] at hx
    by_cases he : x = (k, h)
    · subst he
      rw [beq_self_eq_true] at hx
      rw [if_pos ⟨rfl, rfl⟩]
      exact Option.some.inj hx
    · rw [beq_eq_false_iff_ne.mpr he] at hx
      rw [if_neg (fun hc => he (Prod.ext hc.1 hc.2))]
      exact hf x v hx

end Cert.Talk
end
-- ==== Proof.Tail.lean ====
/-
# The end of the body: the conversation and the combination

A device with its partial result but for the last row stores that row, waits until its peers' landing places are free, sends its
partial result to the three peers, waits for theirs, combines the four and stores the result, and waits until its own copies
have left. While the copies are under way it reads its partial result with the quarter of the share that it kept.

-/
module

public import proofs.«01_k».proof.Proof.Sends
public import proofs.«01_k».proof.Proof.Rows

@[expose] public section

noncomputable section

namespace Cert.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Four partial results combined: the device's own, and those that landed in places 0, 1 and 2. -/
def combine (p a b d : Part F) : FVec F S8x1x8x128 .f32 :=
  k0_pay537 (k0_pay528 (asLanded b)) (k0_pay529 (asLanded d))
    (k0_pay530 (k0_pay526 p) (k0_pay527 (asLanded a)) (asLanded b) (asLanded d)) (k0_pay533 (k0_pay526 p) (k0_pay527 (asLanded a)) (asLanded b) (asLanded d))
    (k0_pay534 (k0_pay526 p) (k0_pay527 (asLanded a)) (asLanded b) (asLanded d)) (k0_pay535 (k0_pay526 p) (k0_pay527 (asLanded a)) (asLanded b) (asLanded d))
    (k0_pay536 (asLanded b))

/-- What device `c` makes of the partial results `X` of all devices. -/
def combined (X : Dev nD → Part F) (c : Dev nD) : FVec F S8x1x8x128 .f32 :=
  combine (X c) (X (peer (back 0) c)) (X (peer (back 1) c)) (X (peer (back 2) c))

/-- The tokens of the six ends of copies that device `c` pays for. -/
def copyToks (c : Dev nD) : sProp 𝕄 :=
  iprop(dutyTok ER (recvCell 0 (peer 0 c)) 0 0 ∗ dutyTok ER (recvCell 1 (peer 1 c)) 0 0 ∗ dutyTok ER (recvCell 2 (peer 2 c)) 0 0
    ∗ dutyTok ER (sendCell 0 c) 0 0 ∗ dutyTok ER (sendCell 1 c) 0 0 ∗ dutyTok ER (sendCell 2 c) 0 0)

/-- The conversation's seven semaphores at rest. -/
def atRest (c : Dev nD) : sProp 𝕄 :=
  iprop(semVal (barCell c) 0 ∗ semVal (sendCell 0 c) 0 ∗ semVal (sendCell 1 c) 0 ∗ semVal (sendCell 2 c) 0
    ∗ semVal (recvCell 0 c) 0 ∗ semVal (recvCell 1 c) 0 ∗ semVal (recvCell 2 c) 0)

/-- What device `c` holds of the conversation's resources when the body is done: the combined result, its buffers, its
    semaphores at rest, and nothing owed. -/
def after (X : Dev nD → Part F) (c : Dev nD) : sProp 𝕄 :=
  iprop(pt c (Memref.whole cc0_stg3_0) (combined X c) ∗ (∃ f, pt c partM f)
    ∗ (∃ f, slotPts 0 c f) ∗ (∃ f, slotPts 1 c f) ∗ (∃ f, slotPts 2 c f)
    ∗ atRest c ∗ (∃ W, owes (c : Thread nD τ) 0 W))

omit [FloatOps F] in
/-- What has landed is in its place. -/
theorem arrived_open (X : Dev nD → Part F) (i : Fin 3) (c : Dev nD) :
    arrived (fun d p => p = X d) i c ⊢ landed i c (X (peer (back i) c)) := by
  unfold arrived
  iintro ⟨%p, %e, H⟩
  subst e
  iexact H

omit [FloatOps F] in
/-- After its landing, place 0 holds something. -/
theorem landed_slot0 (c : Dev nD) (p : Part F) : landed 0 c p ⊢ iprop(∃ f, slotPts 0 c f) := by
  unfold landed; iintro ⟨%f, H⟩; iexists _; iexact H
omit [FloatOps F] in
/-- After its landing, place 1 holds something. -/
theorem landed_slot1 (c : Dev nD) (p : Part F) : landed 1 c p ⊢ iprop(∃ f, slotPts 1 c f) := by
  unfold landed; iintro ⟨%f, H⟩; iexists _; iexact H
omit [FloatOps F] in
/-- After its landing, place 2 holds something. -/
theorem landed_slot2 (c : Dev nD) (p : Part F) : landed 2 c p ⊢ iprop(∃ f, slotPts 2 c f) := by
  unfold landed; iintro ⟨%f, H⟩; iexists _; iexact H

omit [FloatOps F] in
/-- Four offsets of zero. -/
theorem zeros4 : (![0, 0, 0, 0] : Fin 4 → ℕ) = fun _ => 0 := by
  funext a
  fin_cases a <;> rfl

/-- Reading the partial result with the share that was kept. -/
theorem load_kept (c : Dev nD) (p : Part F) {hl} {α : Type} {Q : α → sProp 𝕄} {k : Vec F S3x8x8x128 .bf16 → Prog (TpuEff nD τ sig (Elt F) Λ₀ .tc) α} :
    ⊢ iprop(partPts c kept p -∗ (partPts c kept p -∗ wp frame (wpE (defs₀ (F := F)) Variants.none (c : Thread nD τ) none) Set.univ (k p) Q)
      -∗ wp frame (wpE (defs₀ (F := F)) Variants.none (c : Thread nD τ) none) Set.univ (.op (.load partM (Rect.unit (s := S3x8x8x128) ![0, 0, 0, 0] S3x8x8x128.size inb_S3x8x8x128_S3x8x8x128_0_0_0_0).toLoadRect hl) k) Q) := by
  unfold partPts
  iintro H Hk
  iapply (wp_load Variants.none (c : Thread nD τ) none Set.univ (m := partM) (by rw [partM_set]; exact Finset.subset_univ _)) $$ H
  iintro H
  have e : partM.view.readAt (Elt F) (Rect.unit (s := S3x8x8x128) ![0, 0, 0, 0] S3x8x8x128.size inb_S3x8x8x128_S3x8x8x128_0_0_0_0).toLoadRect p = p :=
    Memref.readAt_unit_zero (Elt F) cc0_scratch3 zeros4 _ p
  rw [e]
  iapply Hk
  iexact H

/-- Storing the result. -/
theorem store_out (c : Dev nD) (f w : Bf (F := F) c cc0_stg3_0) {hl hs hm} {α : Type} {Q : α → sProp 𝕄} {k : PUnit → Prog (TpuEff nD τ sig (Elt F) Λ₀ .tc) α} :
    ⊢ iprop(pt c (Memref.whole cc0_stg3_0) f -∗ (pt c (Memref.whole cc0_stg3_0) w -∗ wp frame (wpE (defs₀ (F := F)) Variants.none (c : Thread nD τ) none) Set.univ (k ⟨⟩) Q)
      -∗ wp frame (wpE (defs₀ (F := F)) Variants.none (c : Thread nD τ) none) Set.univ (.op (.load (Memref.whole cc0_stg3_0) (Rect.unit (s := S8x1x8x128) ![0, 0, 0, 0] S8x1x8x128.size inb_S8x1x8x128_S8x1x8x128_0_0_0_0).toLoadRect hl) fun _ =>
          .op (.store (Memref.whole cc0_stg3_0) (Rect.unit (s := S8x1x8x128) ![0, 0, 0, 0] S8x1x8x128.size inb_S8x1x8x128_S8x1x8x128_0_0_0_0) w Finset.univ hs hm) k) Q) := by
  iintro H Hk
  iapply (wp_load Variants.none (c : Thread nD τ) none Set.univ (m := Memref.whole cc0_stg3_0) (Finset.subset_univ _)) $$ H
  iintro H
  iapply (wp_store Variants.none (c : Thread nD τ) none Set.univ (m := Memref.whole cc0_stg3_0)
    (r := Rect.unit (s := S8x1x8x128) ![0, 0, 0, 0] S8x1x8x128.size inb_S8x1x8x128_S8x1x8x128_0_0_0_0) (f := f) (Finset.subset_univ _)) $$ H
  iintro H
  have e : ((Memref.whole cc0_stg3_0 : Memref sig .tc .vmem S8x1x8x128 .f32).access (Rect.unit (s := S8x1x8x128) ![0, 0, 0, 0] S8x1x8x128.size inb_S8x1x8x128_S8x1x8x128_0_0_0_0)).write (Elt F) f w Finset.univ = w :=
    Memref.write_access_unit_zero_univ (Elt F) cc0_stg3_0 zeros4 _ f w
  rw [e]
  iapply Hk
  iexact H

set_option maxHeartbeats 1000000 in
/-- The rest of the body, from the last row of the partial result to the end. -/
theorem tail (X : Dev nD → Part F) (K : Dev nD × Fin 7 → ℕ) (c : Dev nD) (rows : Rows F) (v2 v5 v8 : BitVec 32) (v : FVec F S8 .f32) (fo : Bf (F := F) c cc0_stg3_0)
    (hX : partHas c (((2, 7), k0_pay525 v) :: rows) ⊢ pt c partM (X c)) {Kt : PUnit → sProp 𝕄} :
    iprop(invs (fun d p => p = X d) K c ∗ marks c ∗ levAts L lv ∗ places c ∗ copyToks c ∗ credits c
        ∗ pt c (Memref.whole cc0_stg3_0) fo ∗ partHas c rows ∗ (∃ W, owes (c : Thread nD τ) (owedCopies c) W)
        ∗ (after X c -∗ Kt ⟨⟩))
      ⊢ wp frame (wpE (defs₀ (F := F)) Variants.none (c : Thread nD τ) none) Set.univ (tailProg c v2 v5 v8 v) fun _ => wp frame (wpE (defs₀ (F := F)) Variants.none (c : Thread nD τ) none) Set.univ lastWait Kt := by
  unfold tailProg lastWait
  rw [k0_part53_eq_skeleton]; unfold k0_part53_skel
  rw [k0_part54_eq_skeleton]; unfold k0_part54_skel
  rw [k0_part55_eq_skeleton]; unfold k0_part55_skel
  simp only [k0_part56_eq_skeleton, k0_part57_eq_skeleton]; unfold k0_part56_skel k0_part57_skel
  simp only [semWaitWord, storeSubelements, Prog.lift, Prog.bind_op, Prog.bind_ret, Prog.pure_eq_ret]
  unfold invs marks places copyToks credits
  iintro ⟨⟨#HIbar, #HIs0, #HIs1, #HIs2, #HIr0, #HIr1, #HIr2, #HIb0, #HIb1, #HIb2, #HIp0, #HIp1, #HIp2⟩,
    ⟨#HRb0, #HRb1, #HRb2, #HRp0, #HRp1, #HRp2, #HRs0, #HRs1, #HRs2, #HRr0, #HRr1, #HRr2⟩, #Hlev,
    ⟨HaB, HaS0, HaS1, HaS2, HaR0, HaR1, HaR2⟩, ⟨Ht0, Ht1, Ht2, Hu0, Hu1, Hu2⟩, ⟨HcB, HcR0, HcR1, HcR2⟩, Hout, Hp, ⟨%W, HO⟩, Hk⟩
  iapply (partHas_load c _) $$ Hp
  iintro %x Hp
  iapply (partHas_store c _ 2 7 rfl rfl) $$ Hp
  iintro Hp
  ihave Hp := hX $$ Hp
  ihave Hp := (part_split c (X c)) $$ Hp
  icases Hp with ⟨Hp0, Hp1, Hp2, Hp3⟩
  iapply (wait_bar _ c _ _) $$ HIbar HcB HO HaB Hlev
  iintro ⟨%W1, HO⟩ HzB Hs2 Hs1 Hs0
  unfold owedCopies
  iapply (send0 _ c _ (dev4_eq c) _ _ _ _ (X c) rfl send0_eq recv0_eq) $$ HIs0 HIp0 Hp0 Hs0 HO Hu0 HRs0 Ht0 HRp0
  iintro HcS0 HO
  iapply (send1 _ c _ (dev5_eq c) _ _ _ _ (X c) rfl send1_eq recv1_eq) $$ HIs1 HIp1 Hp1 Hs1 HO Hu1 HRs1 Ht1 HRp1
  iintro HcS1 HO
  rw [← zero_add (tallyAt (recvCell 2 (peer 2 c)) () N)]
  iapply (send2 _ c _ (dev6_eq c) _ _ _ _ (X c) rfl send2_eq recv2_eq) $$ HIs2 HIp2 Hp2 Hs2 HO Hu2 HRs2 Ht2 HRp2
  iintro HcS2 HO
  iapply (wait_recv _ 0 c _ _ recv0_eq (slot_credit 0)) $$ HIr0 HcR0 HO HaR0
  iintro ⟨%W2, HO⟩ HzR0 Ha0
  iapply (wait_recv _ 1 c _ _ recv1_eq (slot_credit 1)) $$ HIr1 HcR1 HO HaR1
  iintro ⟨%W3, HO⟩ HzR1 Ha1
  iapply (wait_recv _ 2 c _ _ recv2_eq (slot_credit 2)) $$ HIr2 HcR2 HO HaR2
  iintro ⟨%W4, HO⟩ HzR2 Ha2
  ihave Ha0 := (arrived_open X 0 c) $$ Ha0
  ihave Ha1 := (arrived_open X 1 c) $$ Ha1
  ihave Ha2 := (arrived_open X 2 c) $$ Ha2
  iapply (load_kept c _) $$ Hp3
  iintro Hp3
  iapply (load_slot0 c _) $$ Ha0
  iintro Ha0
  iapply (load_slot1 c _) $$ Ha1
  iintro Ha1
  iapply (load_slot2 c _) $$ Ha2
  iintro Ha2
  iapply (store_out c fo _) $$ Hout
  iintro Hout
  iapply (wait_send _ 0 c _ _ send0_eq rfl) $$ HIs0 HcS0 HO HaS0
  iintro ⟨%W5, HO⟩ HzS0 Hh0
  iapply (wait_send _ 1 c _ _ send1_eq rfl) $$ HIs1 HcS1 HO HaS1
  iintro ⟨%W6, HO⟩ HzS1 Hh1
  rw [wp_ret]
  imodintro
  iapply (wait_send _ 2 c _ _ send2_eq rfl) $$ HIs2 HcS2 HO HaS2
  iintro ⟨%W7, HO⟩ HzS2 Hh2
  rw [wp_ret]
  imodintro
  iapply Hk
  ihave Hp := (part_join c (X c)) $$ [Hh0 Hh1 Hh2 Hp3]
  · isplitl [Hh0]; · iexact Hh0
    isplitl [Hh1]; · iexact Hh1
    isplitl [Hh2]; · iexact Hh2
    iexact Hp3
  ihave Ha0 := (landed_slot0 c _) $$ Ha0
  ihave Ha1 := (landed_slot1 c _) $$ Ha1
  ihave Ha2 := (landed_slot2 c _) $$ Ha2
  unfold after atRest
  isplitl [Hout]; · iexact Hout
  isplitl [Hp]; · iexists _; iexact Hp
  isplitl [Ha0]; · iexact Ha0
  isplitl [Ha1]; · iexact Ha1
  isplitl [Ha2]; · iexact Ha2
  isplitl [HzB HzS0 HzS1 HzS2 HzR0 HzR1 HzR2]
  · isplitl [HzB]; · iexact HzB
    isplitl [HzS0]; · iexact HzS0
    isplitl [HzS1]; · iexact HzS1
    isplitl [HzS2]; · iexact HzS2
    isplitl [HzR0]; · iexact HzR0
    isplitl [HzR1]; · iexact HzR1
    iexact HzR2
  iexists _
  iexact HO

end Cert.Talk
end
-- ==== Proof.Ring.lean ====
/-
# Four slots in turn

Pages come into a buffer of four slots, in turn; 64 pages fill a slot. A slot is read after up to three further slots have been
filled: what is read is what was last copied into this very slot.
-/
module

public import proofs.«01_k».proof.Proof.Steps

@[expose] public section

noncomputable section

namespace Cert.Talk

open Cert.KernelIdeal Cert.KernelIdeal.Gen

open Idealize.ShloMosaic
open Idealize.ShloMosaic.TcCoe

variable {F : FTy → Type}

/-- The ring of page buffers, whole. -/
abbrev ringM : Memref sig .tc .vmem S4x64x16x8x128 .f32 := Memref.whole cc0_scratch0

/-- Slot `k` lies within the ring. -/
theorem ring_inb (k : Fin 4) : ∀ a : Fin 5, (![k.val, 0, 0, 0, 0] : Fin 5 → ℕ) a + S1x64x16x8x128.size a ≤ S4x64x16x8x128.size a := by
  revert k; decide

/-- Slot `k`, as a load reads it. -/
abbrev slotR (k : Fin 4) : Rect S4x64x16x8x128 := Rect.unit (s := S4x64x16x8x128) ![k.val, 0, 0, 0, 0] S1x64x16x8x128.size (ring_inb k)

/-- Slot `k`, as a copy fills it. -/
abbrev ringSlot (k : Fin 4) : Memref sig .tc .vmem S64x16x8x128 .f32 :=
  (ringM.slice (slotR k) (fun _ => rfl)).squeeze S64x16x8x128 squeezes_S1x64x16x8x128_S64x16x8x128

/-- The place of entry `i` of a loaded slot among the pages copied in. -/
def pageIx (i : S1x64x16x8x128.Idx) : S64x16x8x128.Idx
  | 0 => i 1
  | 1 => i 2
  | 2 => i 3
  | 3 => i 4

/-- The pages `w` as a load of their slot gives them. -/
def asLoaded (w : S64x16x8x128.Idx → Elt F .f32) : Vec F S1x64x16x8x128 .f32 := fun i => w (pageIx i)

/-- Reading slot `k` just after it has been filled. -/
theorem ring_hit (k : Fin 4) (f : (cc0_scratch0 : Ref sig .tc).ty.Contents (Elt F)) (w : S64x16x8x128.Idx → Elt F .f32) :
    ringM.view.readAt (Elt F) (slotR k).toLoadRect ((ringSlot k).view.write (Elt F) f w Finset.univ) = asLoaded w := by
  funext i
  show ringM.view.read (Elt F) _ ((slotR k).idx i) = w (pageIx i)
  have h := congrFun (View.read_write_univ (v := (ringSlot k).view) (Val := Elt F) f w) (pageIx i)
  refine Eq.trans ?_ h
  refine congrArg ((ringSlot k).view.write (Elt F) f w Finset.univ) ?_
  show (slotR k).idx i = (slotR k).idx (Shape.reshapeEquiv _ (pageIx i))
  refine congrArg (slotR k).idx ?_
  have h1 := Shape.reshapeEquiv_cons_one (n := 4) (d := ![64, 16, 8, 128]) squeezes_S1x64x16x8x128_S64x16x8x128.numel_eq (pageIx i)
  refine Eq.trans ?_ h1.symm
  funext a
  refine Fin.cases ?_ (fun b => ?_) a
  · exact Fin.ext (by have : (i 0).val < 1 := (i 0).isLt; show (i 0).val = 0; omega)
  · fin_cases b <;> rfl

/-- Filling another slot does not change slot `k`. -/
theorem ring_miss (k j : Fin 4) (hne : j ≠ k) (f : (cc0_scratch0 : Ref sig .tc).ty.Contents (Elt F)) (w : S64x16x8x128.Idx → Elt F .f32) :
    ringM.view.readAt (Elt F) (slotR k).toLoadRect ((ringSlot j).view.write (Elt F) f w Finset.univ)
      = ringM.view.readAt (Elt F) (slotR k).toLoadRect f := by
  funext i
  show (ringSlot j).view.write (Elt F) f w Finset.univ ((slotR k).idx i) = f ((slotR k).idx i)
  refine View.write_of_not_mem _ _ _ ?_
  intro hm
  obtain ⟨y, -, hy⟩ := Finset.mem_map.mp hm
  have e1 : ∀ (l : Fin 4) (z : S1x64x16x8x128.Idx), ((slotR l).idx z 0).val = l.val := by
    intro l z
    show l.val + 1 * (z 0).val = l.val
    have : (z 0).val < 1 := (z 0).isLt
    omega
  have h0 := congrArg (fun z : S4x64x16x8x128.Idx => (z 0).val) hy
  exact hne (Fin.ext ((e1 j _).symm.trans (h0.trans (e1 k i))))

/-! The four slots as a copy fills them, and as a load reads them. -/

/-- The ring after a copy into slot 0. -/
abbrev fill0 (f : (cc0_scratch0 : Ref sig .tc).ty.Contents (Elt F)) (w : S64x16x8x128.Idx → Elt F .f32) : (cc0_scratch0 : Ref sig .tc).ty.Contents (Elt F) :=
  View.write (Elt F) (((Memref.whole cc0_scratch0 : Memref sig .tc .vmem S4x64x16x8x128 .f32).slice (Rect.unit (s := S4x64x16x8x128) ![0, 0, 0, 0, 0] S1x64x16x8x128.size inb_S4x64x16x8x128_S1x64x16x8x128_0_0_0_0_0) (fun _ => rfl)).squeeze S64x16x8x128 squeezes_S1x64x16x8x128_S64x16x8x128).view f w Finset.univ
/-- What is loaded out of slot 0. -/
abbrev look0 (f : (cc0_scratch0 : Ref sig .tc).ty.Contents (Elt F)) : Vec F S1x64x16x8x128 .f32 :=
  View.readAt (Elt F) (Memref.whole cc0_scratch0 : Memref sig .tc .vmem S4x64x16x8x128 .f32).view (Rect.unit (s := S4x64x16x8x128) ![0, 0, 0, 0, 0] S1x64x16x8x128.size inb_S4x64x16x8x128_S1x64x16x8x128_0_0_0_0_0).toLoadRect f

/-- The ring after a copy into slot 1. -/
abbrev fill1 (f : (cc0_scratch0 : Ref sig .tc).ty.Contents (Elt F)) (w : S64x16x8x128.Idx → Elt F .f32) : (cc0_scratch0 : Ref sig .tc).ty.Contents (Elt F) :=
  View.write (Elt F) (((Memref.whole cc0_scratch0 : Memref sig .tc .vmem S4x64x16x8x128 .f32).slice (Rect.unit (s := S4x64x16x8x128) ![1, 0, 0, 0, 0] S1x64x16x8x128.size inb_S4x64x16x8x128_S1x64x16x8x128_1_0_0_0_0) (fun _ => rfl)).squeeze S64x16x8x128 squeezes_S1x64x16x8x128_S64x16x8x128).view f w Finset.univ
/-- What is loaded out of slot 1. -/
abbrev look1 (f : (cc0_scratch0 : Ref sig .tc).ty.Contents (Elt F)) : Vec F S1x64x16x8x128 .f32 :=
  View.readAt (Elt F) (Memref.whole cc0_scratch0 : Memref sig .tc .vmem S4x64x16x8x128 .f32).view (Rect.unit (s := S4x64x16x8x128) ![1, 0, 0, 0, 0] S1x64x16x8x128.size inb_S4x64x16x8x128_S1x64x16x8x128_1_0_0_0_0).toLoadRect f

/-- The ring after a copy into slot 2. -/
abbrev fill2 (f : (cc0_scratch0 : Ref sig .tc).ty.Contents (Elt F)) (w : S64x16x8x128.Idx → Elt F .f32) : (cc0_scratch0 : Ref sig .tc).ty.Contents (Elt F) :=
  View.write (Elt F) (((Memref.whole cc0_scratch0 : Memref sig .tc .vmem S4x64x16x8x128 .f32).slice (Rect.unit (s := S4x64x16x8x128) ![2, 0, 0, 0, 0] S1x64x16x8x128.size inb_S4x64x16x8x128_S1x64x16x8x128_2_0_0_0_0) (fun _ => rfl)).squeeze S64x16x8x128 squeezes_S1x64x16x8x128_S64x16x8x128).view f w Finset.univ
/-- What is loaded out of slot 2. -/
abbrev look2 (f : (cc0_scratch0 : Ref sig .tc).ty.Contents (Elt F)) : Vec F S1x64x16x8x128 .f32 :=
  View.readAt (Elt F) (Memref.whole cc0_scratch0 : Memref sig .tc .vmem S4x64x16x8x128 .f32).view (Rect.unit (s := S4x64x16x8x128) ![2, 0, 0, 0, 0] S1x64x16x8x128.size inb_S4x64x16x8x128_S1x64x16x8x128_2_0_0_0_0).toLoadRect f

/-- The ring after a copy into slot 3. -/
abbrev fill3 (f : (cc0_scratch0 : Ref sig .tc).ty.Contents (Elt F)) (w : S64x16x8x128.Idx → Elt F .f32) : (cc0_scratch0 : Ref sig .tc).ty.Contents (Elt F) :=
  View.write (Elt F) (((Memref.whole cc0_scratch0 : Memref sig .tc .vmem S4x64x16x8x128 .f32).slice (Rect.unit (s := S4x64x16x8x128) ![3, 0, 0, 0, 0] S1x64x16x8x128.size inb_S4x64x16x8x128_S1x64x16x8x128_3_0_0_0_0) (fun _ => rfl)).squeeze S64x16x8x128 squeezes_S1x64x16x8x128_S64x16x8x128).view f w Finset.univ
/-- What is loaded out of slot 3. -/
abbrev look3 (f : (cc0_scratch0 : Ref sig .tc).ty.Contents (Elt F)) : Vec F S1x64x16x8x128 .f32 :=
  View.readAt (Elt F) (Memref.whole cc0_scratch0 : Memref sig .tc .vmem S4x64x16x8x128 .f32).view (Rect.unit (s := S4x64x16x8x128) ![3, 0, 0, 0, 0] S1x64x16x8x128.size inb_S4x64x16x8x128_S1x64x16x8x128_3_0_0_0_0).toLoadRect f

/-! What is read out of a slot, by the number of slots filled since. -/

/-- Slot 0 gives what was copied into it, with the three other slots filled since. -/
theorem look0_3 : ∀ (f : (cc0_scratch0 : Ref sig .tc).ty.Contents (Elt F)) (w0 w1 w2 w3 : S64x16x8x128.Idx → Elt F .f32),
    look0 (fill3 (fill2 (fill1 (fill0 f w0) w1) w2) w3) = asLoaded w0 := fun f w0 w1 w2 w3 => (ring_miss 0 3 (by decide) _ _).trans ((ring_miss 0 2 (by decide) _ _).trans ((ring_miss 0 1 (by decide) _ _).trans (ring_hit 0 _ _)))
/-- Slot 1 gives what was copied into it, with the three other slots filled since. -/
theorem look1_3 : ∀ (f : (cc0_scratch0 : Ref sig .tc).ty.Contents (Elt F)) (w0 w1 w2 w3 : S64x16x8x128.Idx → Elt F .f32),
    look1 (fill0 (fill3 (fill2 (fill1 f w0) w1) w2) w3) = asLoaded w0 := fun f w0 w1 w2 w3 => (ring_miss 1 0 (by decide) _ _).trans ((ring_miss 1 3 (by decide) _ _).trans ((ring_miss 1 2 (by decide) _ _).trans (ring_hit 1 _ _)))
/-- Slot 2 gives what was copied into it, with the three other slots filled since. -/
theorem look2_3 : ∀ (f : (cc0_scratch0 : Ref sig .tc).ty.Contents (Elt F)) (w0 w1 w2 w3 : S64x16x8x128.Idx → Elt F .f32),
    look2 (fill1 (fill0 (fill3 (fill2 f w0) w1) w2) w3) = asLoaded w0 := fun f w0 w1 w2 w3 => (ring_miss 2 1 (by decide) _ _).trans ((ring_miss 2 0 (by decide) _ _).trans ((ring_miss 2 3 (by decide) _ _).trans (ring_hit 2 _ _)))
/-- Slot 3 gives what was copied into it, with the three other slots filled since. -/
theorem look3_3 : ∀ (f : (cc0_scratch0 : Ref sig .tc).ty.Contents (Elt F)) (w0 w1 w2 w3 : S64x16x8x128.Idx → Elt F .f32),
    look3 (fill2 (fill1 (fill0 (fill3 f w0) w1) w2) w3) = asLoaded w0 := fun f w0 w1 w2 w3 => (ring_miss 3 2 (by decide) _ _).trans ((ring_miss 3 1 (by decide) _ _).trans ((ring_miss 3 0 (by decide) _ _).trans (ring_hit 3 _ _)))
/-- Slot 1 gives what was copied into it, with two other slots filled since. -/
theorem look1_2 : ∀ (f : (cc0_scratch0 : Ref sig .tc).ty.Contents (Elt F)) (w0 w1 w2 : S64x16x8x128.Idx → Elt F .f32),
    look1 (fill3 (fill2 (fill1 f w0) w1) w2) = asLoaded w0 := fun f w0 w1 w2 => (ring_miss 1 3 (by decide) _ _).trans ((ring_miss 1 2 (by decide) _ _).trans (ring_hit 1 _ _))
/-- Slot 2 gives what was copied into it, with one other slot filled since. -/
theorem look2_1 : ∀ (f : (cc0_scratch0 : Ref sig .tc).ty.Contents (Elt F)) (w0 w1 : S64x16x8x128.Idx → Elt F .f32),
    look2 (fill3 (fill2 f w0) w1) = asLoaded w0 := fun f w0 w1 => (ring_miss 2 3 (by decide) _ _).trans (ring_hit 2 _ _)
/-- Slot 3 gives what was copied into it, with nothing copied since. -/
theorem look3_0 : ∀ (f : (cc0_scratch0 : Ref sig .tc).ty.Contents (Elt F)) (w0 : S64x16x8x128.Idx → Elt F .f32),
    look3 (fill3 f w0) = asLoaded w0 := fun f w0 => ring_hit 3 _ _

end Cert.Talk
end
-- ==== Proof.Local.lean ====
module

public import proofs.«01_k».proof.Proof.Rows
public import proofs.«01_k».proof.Proof.Ring

@[expose] public section

noncomputable section

namespace Cert.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

omit [FloatOps F] in
/-- A goal may be replaced by one that entails it. -/
theorem conclude {P A B : sProp 𝕄} (h : A ⊢ B) (g : Entails' P A) : Entails' P B := BIBase.Entails.trans g h

/-- What a device holds after its own part of the work, put together. -/
theorem gather {c : Dev nD} {R X : sProp 𝕄} {W : Waits sig Unit}
    {fq : Bf (F := F) c cc0_stg0_0} {fb : Bf (F := F) c cc0_stg1_0} {fl : Bf (F := F) c cc0_stg2_0} {fK : Bf (F := F) c main_arg1} {fV : Bf (F := F) c main_arg2}
    {fo : Bf (F := F) c cc0_stg3_0} {fkv : Bf (F := F) c cc0_scratch0} {fs : Bf (F := F) c cc0_scratch2} {p : Rows F}
    (h : iprop(R ∗ (∃ fkv' fs', mine c fq fb fl fK fV fo fkv' fs') ∗ partHas c p ∗ (∃ W', owes (c : Thread nD τ) (owedCopies c) W')) ⊢ X) :
    R ⊢ iprop(pt c (Memref.whole cc0_stg0_0) fq -∗ pt c (Memref.whole cc0_stg1_0) fb -∗ pt c (Memref.whole cc0_stg2_0) fl -∗ pt c (Memref.whole main_arg1) fK -∗ pt c (Memref.whole main_arg2) fV -∗ pt c (Memref.whole cc0_stg3_0) fo
      -∗ pt c (Memref.whole cc0_scratch0) fkv -∗ pt c (Memref.whole cc0_scratch2) fs
      -∗ semVal ((c : Thread nD τ), .dma (⟨4, by decide⟩ : DmaSem sig)) 0 -∗ semVal ((c : Thread nD τ), .dma (⟨5, by decide⟩ : DmaSem sig)) 0
      -∗ semVal ((c : Thread nD τ), .dma (⟨6, by decide⟩ : DmaSem sig)) 0 -∗ semVal ((c : Thread nD τ), .dma (⟨7, by decide⟩ : DmaSem sig)) 0
      -∗ partHas c p -∗ owes (c : Thread nD τ) (owedCopies c) W -∗ X) := by
  iintro HF Hq Hb Hl HK HV Ho Hkv Hs Hz0 Hz1 Hz2 Hz3 Hp HO
  refine conclude h ?_
  isplitl [HF]; · iexact HF
  isplitl [Hq Hb Hl HK HV Ho Hkv Hs Hz0 Hz1 Hz2 Hz3]
  · iexists fkv; iexists fs
    unfold mine
    isplitl [Hq]; · iexact Hq
    isplitl [Hb]; · iexact Hb
    isplitl [Hl]; · iexact Hl
    isplitl [HK]; · iexact HK
    isplitl [HV]; · iexact HV
    isplitl [Ho]; · iexact Ho
    isplitl [Hkv]; · iexact Hkv
    isplitl [Hs]; · iexact Hs
    isplitl [Hz0]; · iexact Hz0
    isplitl [Hz1]; · iexact Hz1
    isplitl [Hz2]; · iexact Hz2
    iexact Hz3
  isplitl [Hp]; · iexact Hp
  iexists W
  iexact HO

set_option maxHeartbeats 400000 in
set_option sl_exec.resultNames true in
set_option sl_exec.dmaWindow true in
/-- The device's own part of the work, up to the last row of its partial result: from its buffers, three landing places and
    its three tokens for the peers' barriers, the run comes to the rest of the body with the partial result and the last row
    named here, all other buffers as they were but for scratch, owing only the three landings. -/
def localRun (c : Dev nD)
    (fq : Bf (F := F) c cc0_stg0_0) (fb : Bf (F := F) c cc0_stg1_0) (fl : Bf (F := F) c cc0_stg2_0)
    (fK : Bf (F := F) c main_arg1) (fV : Bf (F := F) c main_arg2) (fkv : Bf (F := F) c cc0_scratch0) (fs : Bf (F := F) c cc0_scratch2) :
    { PC : Rows F × FVec F S8 .f32 //
      ∀ (ok : Dev nD → Part F → Prop) (K : Dev nD × Fin 7 → ℕ) (fo : Bf (F := F) c cc0_stg3_0) (W : Waits sig Unit) (R : sProp 𝕄) (Q : PUnit → sProp 𝕄),
        (∀ (v2 v5 v8 : BitVec 32),
          iprop(R ∗ (∃ fkv' fs', mine c fq fb fl fK fV fo fkv' fs') ∗ partHas c PC.1 ∗ (∃ W', owes (c : Thread nD τ) (owedCopies c) W'))
            ⊢ wp frame (wpE (defs₀ (F := F)) Variants.none (c : Thread nD τ) none) Set.univ (tailProg c v2 v5 v8 PC.2)
              fun _ => wp frame (wpE (defs₀ (F := F)) Variants.none (c : Thread nD τ) none) Set.univ lastWait Q) →
        iprop(R ∗ mine c fq fb fl fK fV fo fkv fs ∗ partHas c ([] : Rows F)
            ∗ (∃ f, slotPts (back 0) c f) ∗ (∃ f, slotPts (back 1) c f) ∗ (∃ f, slotPts (back 2) c f)
            ∗ invs ok K c ∗ marks c
            ∗ dutyTok ER (barCell (peer 0 c)) 0 0 ∗ dutyTok ER (barCell (peer 1 c)) 0 1 ∗ dutyTok ER (barCell (peer 2 c)) 0 2
            ∗ levAts L lv
            ∗ owes (c : Thread nD τ) (owedAll c) W)
          ⊢ wp frame (wpE (defs₀ (F := F)) Variants.none (c : Thread nD τ) none) Set.univ bodyProg Q } := by
  refine ⟨⟨?_, ?_⟩, fun ok K fo W R Q hk => ?run⟩
  case run =>
    unfold bodyProg
    rw [cc0__body_eq_skeleton]; unfold cc0__body_skel
    rw [k0_part58_eq_skeleton]; unfold k0_part58_skel
    unfold mine owedAll
    iintro ⟨HF, ⟨Hq, Hb, Hl, HK, HV, Ho, Hkv, Hs, Hz0, Hz1, Hz2, Hz3⟩, Hp, Hc2, Hc1, Hc0, #HI, #HR, Ht0, Ht1, Ht2, #Hlev, HO⟩
    have hm0 : (levAts L lv : sProp 𝕄) ⊢ MayWait (c : Thread nD τ) (.dma (⟨4, by decide⟩ : DmaSem sig)) default (owedCopies c) := mayPage (F := F) c 0 _ (by decide)
    have hm1 : (levAts L lv : sProp 𝕄) ⊢ MayWait (c : Thread nD τ) (.dma (⟨5, by decide⟩ : DmaSem sig)) default (owedCopies c) := mayPage (F := F) c 1 _ (by decide)
    have hm2 : (levAts L lv : sProp 𝕄) ⊢ MayWait (c : Thread nD τ) (.dma (⟨6, by decide⟩ : DmaSem sig)) default (owedCopies c) := mayPage (F := F) c 2 _ (by decide)
    have hm3 : (levAts L lv : sProp 𝕄) ⊢ MayWait (c : Thread nD τ) (.dma (⟨7, by decide⟩ : DmaSem sig)) default (owedCopies c) := mayPage (F := F) c 3 _ (by decide)
    have f0_3 := @look0_3 F
    have f1_3 := @look1_3 F
    have f2_3 := @look2_3 F
    have f3_3 := @look3_3 F
    have f1_2 := @look1_2 F
    have f2_1 := @look2_1 F
    have f3_0 := @look3_0 F
    dsimp only [fill0, fill1, fill2, fill3, look0, look1, look2, look3] at f0_3 f1_3 f2_3 f3_3 f1_2 f2_1 f3_0
    sl_exec_parts
    iapply (raise ok K 0 c _ (dev1_eq c)) $$ HI HR HO Ht0 Hc2
    iintro HO
    sl_exec_parts
    iapply (raise ok K 1 c _ (dev2_eq c)) $$ HI HR HO Ht1 Hc1
    iintro HO
    sl_exec_parts
    iapply (raise ok K 2 c _ (dev3_eq c)) $$ HI HR HO Ht2 Hc0
    iintro HO
    sl_exec_parts
    iapply (partHas_load c _) $$ Hp
    iintro %x Hp
    sl_exec_parts
    iapply (partHas_store c _ 0 0 rfl rfl) $$ Hp
    iintro Hp
    sl_exec_parts
    iapply (partHas_load c _) $$ Hp
    iintro %x Hp
    sl_exec_parts
    iapply (partHas_store c _ 1 0 rfl rfl) $$ Hp
    iintro Hp
    sl_exec_parts
    iapply (partHas_load c _) $$ Hp
    iintro %x Hp
    sl_exec_parts
    iapply (partHas_store c _ 2 0 rfl rfl) $$ Hp
    iintro Hp
    sl_exec_parts
    iapply (partHas_load c _) $$ Hp
    iintro %x Hp
    sl_exec_parts
    iapply (partHas_store c _ 0 1 rfl rfl) $$ Hp
    iintro Hp
    sl_exec_parts
    iapply (partHas_load c _) $$ Hp
    iintro %x Hp
    sl_exec_parts
    iapply (partHas_store c _ 1 1 rfl rfl) $$ Hp
    iintro Hp
    sl_exec_parts
    iapply (partHas_load c _) $$ Hp
    iintro %x Hp
    sl_exec_parts
    iapply (partHas_store c _ 2 1 rfl rfl) $$ Hp
    iintro Hp
    sl_exec_parts
    iapply (partHas_load c _) $$ Hp
    iintro %x Hp
    sl_exec_parts
    iapply (partHas_store c _ 0 2 rfl rfl) $$ Hp
    iintro Hp
    sl_exec_parts
    iapply (partHas_load c _) $$ Hp
    iintro %x Hp
    sl_exec_parts
    iapply (partHas_store c _ 1 2 rfl rfl) $$ Hp
    iintro Hp
    sl_exec_parts
    iapply (partHas_load c _) $$ Hp
    iintro %x Hp
    sl_exec_parts
    iapply (partHas_store c _ 2 2 rfl rfl) $$ Hp
    iintro Hp
    sl_exec_parts
    iapply (partHas_load c _) $$ Hp
    iintro %x Hp
    sl_exec_parts
    iapply (partHas_store c _ 0 3 rfl rfl) $$ Hp
    iintro Hp
    sl_exec_parts
    iapply (partHas_load c _) $$ Hp
    iintro %x Hp
    sl_exec_parts
    iapply (partHas_store c _ 1 3 rfl rfl) $$ Hp
    iintro Hp
    sl_exec_parts
    iapply (partHas_load c _) $$ Hp
    iintro %x Hp
    sl_exec_parts
    iapply (partHas_store c _ 2 3 rfl rfl) $$ Hp
    iintro Hp
    sl_exec_parts
    iapply (partHas_load c _) $$ Hp
    iintro %x Hp
    sl_exec_parts
    iapply (partHas_store c _ 0 4 rfl rfl) $$ Hp
    iintro Hp
    sl_exec_parts
    iapply (partHas_load c _) $$ Hp
    iintro %x Hp
    sl_exec_parts
    iapply (partHas_store c _ 1 4 rfl rfl) $$ Hp
    iintro Hp
    sl_exec_parts
    iapply (partHas_load c _) $$ Hp
    iintro %x Hp
    sl_exec_parts
    iapply (partHas_store c _ 2 4 rfl rfl) $$ Hp
    iintro Hp
    sl_exec_parts
    iapply (partHas_load c _) $$ Hp
    iintro %x Hp
    sl_exec_parts
    iapply (partHas_store c _ 0 5 rfl rfl) $$ Hp
    iintro Hp
    sl_exec_parts
    iapply (partHas_load c _) $$ Hp
    iintro %x Hp
    sl_exec_parts
    iapply (partHas_store c _ 1 5 rfl rfl) $$ Hp
    iintro Hp
    sl_exec_parts
    iapply (partHas_load c _) $$ Hp
    iintro %x Hp
    sl_exec_parts
    iapply (partHas_store c _ 2 5 rfl rfl) $$ Hp
    iintro Hp
    sl_exec_parts
    iapply (partHas_load c _) $$ Hp
    iintro %x Hp
    sl_exec_parts
    iapply (partHas_store c _ 0 6 rfl rfl) $$ Hp
    iintro Hp
    sl_exec_parts
    iapply (partHas_load c _) $$ Hp
    iintro %x Hp
    sl_exec_parts
    iapply (partHas_store c _ 1 6 rfl rfl) $$ Hp
    iintro Hp
    sl_exec_parts
    iapply (partHas_load c _) $$ Hp
    iintro %x Hp
    sl_exec_parts
    iapply (partHas_store c _ 2 6 rfl rfl) $$ Hp
    iintro Hp
    sl_exec_parts
    iapply (partHas_load c _) $$ Hp
    iintro %x Hp
    sl_exec_parts
    iapply (partHas_store c _ 0 7 rfl rfl) $$ Hp
    iintro Hp
    sl_exec_parts
    iapply (partHas_load c _) $$ Hp
    iintro %x Hp
    sl_exec_parts
    iapply (partHas_store c _ 1 7 rfl rfl) $$ Hp
    iintro Hp
    set_option sl_exec.stopBefore "k0_part53" in sl_exec_parts
    dsimp only at hk
    unfold tailProg lastWait at hk
    have hk2 := hk (localRun.sl.v2 c) (localRun.sl.v5 c) (localRun.sl.v8 c)
    refine conclude (BIBase.Entails.trans hk2 (Entails.of_eq ?e)) ?p
    case e =>
      refine congr (congrArg (fun p => DFunLike.coe (wp frame (wpE (defs₀ (F := F)) Variants.none (c : Thread nD τ) none) Set.univ p)) ?_) ?_
      · refine congr (congrArg Bind.bind ?_) ?_
        · with_reducible congr 1
          exact rfl
        · rfl
      · rfl
    iapply (gather BIBase.Entails.refl) $$ HF Hq Hb Hl HK HV Ho Hkv Hs Hz0 Hz1 Hz2 Hz3 Hp HO

end Cert.Talk
end
-- ==== Proof.Partial.lean ====
/-
# The partial result of a device

The 24 blocks that a device packs, as functions of its buffers: for every head the weighted sum of the values, the maximum of the
scores and the sum of the weights. Together they fill the buffer, so that what the buffer held at first does not matter.

-/
module

public import proofs.«01_k».proof.Proof.Local

@[expose] public section

noncomputable section

namespace Cert.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The weighted sums of the values, head by head. -/
def oRows (c : Dev nD) (fq : Bf (F := F) c cc0_stg0_0) (fb : Bf (F := F) c cc0_stg1_0) (fl : Bf (F := F) c cc0_stg2_0) (fK : Bf (F := F) c main_arg1) (fV : Bf (F := F) c main_arg2) : Fin 8 → Block F :=
  ![k0_pay499 (localRun.sl.v1619 c fq fb fl fK fV), k0_pay503 (localRun.sl.v1621 c fq fb fl fK fV), k0_pay507 (localRun.sl.v1733 c fq fb fl fK fV), k0_pay510 (localRun.sl.v1646 c fq fb fl fK fV), k0_pay513 (localRun.sl.v1669 c fq fb fl fK fV), k0_pay516 (localRun.sl.v1671 c fq fb fl fK fV), k0_pay520 (localRun.sl.v1694 c fq fb fl fK fV), k0_pay523 (localRun.sl.v1696 c fq fb fl fK fV)]
/-- The maxima of the scores, head by head. -/
def mRows (c : Dev nD) (fq : Bf (F := F) c cc0_stg0_0) (fb : Bf (F := F) c cc0_stg1_0) (fl : Bf (F := F) c cc0_stg2_0) (fK : Bf (F := F) c main_arg1) (fV : Bf (F := F) c main_arg2) : Fin 8 → Block F :=
  ![k0_pay501 (localRun.sl.v1703 c fq fK), k0_pay504 (localRun.sl.v767 c fq fK), k0_pay508 (localRun.sl.v769 c fq fK), k0_pay511 (localRun.sl.v771 c fq fK), k0_pay514 (localRun.sl.v773 c fq fK), k0_pay517 (localRun.sl.v775 c fq fK), k0_pay521 (localRun.sl.v777 c fq fK), k0_pay524 (localRun.sl.v779 c fq fK)]
/-- The sums of the weights, head by head. -/
def lRows (c : Dev nD) (fq : Bf (F := F) c cc0_stg0_0) (fb : Bf (F := F) c cc0_stg1_0) (fl : Bf (F := F) c cc0_stg2_0) (fK : Bf (F := F) c main_arg1) (fV : Bf (F := F) c main_arg2) : Fin 8 → Block F :=
  ![k0_pay502 (localRun.sl.v1605 c fq fb fl fK), k0_pay505 (localRun.sl.v1614 c fq fb fl fK), k0_pay509 (localRun.sl.v1630 c fq fb fl fK), k0_pay512 (localRun.sl.v1639 c fq fb fl fK), k0_pay515 (localRun.sl.v1655 c fq fb fl fK), k0_pay519 (localRun.sl.v1801 c fq fb fl fK), k0_pay522 (localRun.sl.v1680 c fq fb fl fK), k0_pay525 (localRun.sl.v1689 c fq fb fl fK)]

/-- All blocks, by kind and head. -/
def blocks (c : Dev nD) (fq : Bf (F := F) c cc0_stg0_0) (fb : Bf (F := F) c cc0_stg1_0) (fl : Bf (F := F) c cc0_stg2_0) (fK : Bf (F := F) c main_arg1) (fV : Bf (F := F) c main_arg2) : Fin 3 → Fin 8 → Block F :=
  ![oRows c fq fb fl fK fV, mRows c fq fb fl fK fV, lRows c fq fb fl fK fV]

/-- Where entry `j` of the buffer stands in its block. -/
def inBlock (j : S3x8x8x128.Idx) : S1x8x1x128.Idx
  | 0 => (0 : Fin 1)
  | 1 => j 1
  | 2 => (0 : Fin 1)
  | 3 => j 3

/-- The partial result of a device: the blocks laid out in the buffer. -/
def partialOf (c : Dev nD) (fq : Bf (F := F) c cc0_stg0_0) (fb : Bf (F := F) c cc0_stg1_0) (fl : Bf (F := F) c cc0_stg2_0) (fK : Bf (F := F) c main_arg1) (fV : Bf (F := F) c main_arg2) : Part F :=
  fun j => blocks c fq fb fl fK fV (show Fin 3 from j 0) (show Fin 8 from j 2) (inBlock j)

/-- The 23 blocks named by the run, and the last one. -/
theorem all_blocks (c : Dev nD) (fq : Bf (F := F) c cc0_stg0_0) (fb : Bf (F := F) c cc0_stg1_0) (fl : Bf (F := F) c cc0_stg2_0) (fK : Bf (F := F) c main_arg1) (fV : Bf (F := F) c main_arg2) (fkv : Bf (F := F) c cc0_scratch0) (fs : Bf (F := F) c cc0_scratch2) (k : Fin 3) (h : Fin 8) :
    ((((2, 7), k0_pay525 (localRun c fq fb fl fK fV fkv fs).1.2) :: (localRun c fq fb fl fK fV fkv fs).1.1 : Rows F)).lookup (k, h)
      = some (blocks c fq fb fl fK fV k h) := by
  fin_cases k <;> fin_cases h <;> rfl

/-- When all blocks are stored the buffer holds the partial result. -/
theorem partHas_full (c : Dev nD) (fq : Bf (F := F) c cc0_stg0_0) (fb : Bf (F := F) c cc0_stg1_0) (fl : Bf (F := F) c cc0_stg2_0) (fK : Bf (F := F) c main_arg1) (fV : Bf (F := F) c main_arg2) (fkv : Bf (F := F) c cc0_scratch0) (fs : Bf (F := F) c cc0_scratch2) :
    partHas c (((2, 7), k0_pay525 (localRun c fq fb fl fK fV fkv fs).1.2) :: (localRun c fq fb fl fK fV fkv fs).1.1)
      ⊢ pt c partM (partialOf c fq fb fl fK fV) := by
  unfold partHas
  iintro ⟨%f, %hf, H⟩
  have e : f = partialOf c fq fb fl fK fV := by
    funext j
    have h1 := congrFun (hf (show Fin 3 from j 0, show Fin 8 from j 2) _ (all_blocks c fq fb fl fK fV fkv fs _ _)) (inBlock j)
    refine Eq.trans (congrArg f ?_) h1
    funext a
    fin_cases a <;> rfl
  subst e
  iexact H

end Cert.Talk
end
-- ==== Proof.Body.lean ====
/-
# The whole body, as the pipeline runs it

The kernel has one grid point. Its pipeline fetches the queries, the page table and the lengths, runs the body, and writes the
result back. This module says what a device holds before and after that one point and proves that the body takes the one to the
other: the device's own run (`localRun`) and then the conversation (`tail`).
-/
module

public import proofs.«01_k».proof.Proof.Tail
public import proofs.«01_k».proof.Proof.Partial
public import proofs.«01_k».proof.Proof.Gen.KernelIdeal.Frame

@[expose] public section

noncomputable section

namespace Cert.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Cfg Window BodyObligation)

variable (m : (ℓ : Loc nD τ sig) → Buf (Elt F) ℓ)

/-! ## What each device computes -/

/-- The queries, the page table and the lengths that device `c` fetches, and its own keys and values. -/
def qOf (c : Dev nD) : Bf (F := F) c cc0_stg0_0 := iblk m c 0 t0_0
/-- The page table, as the body finds it. -/
def btOf (c : Dev nD) : Bf (F := F) c cc0_stg1_0 := iblk m c 1 t0_0
/-- The lengths, as the body finds them. -/
def lensOf (c : Dev nD) : Bf (F := F) c cc0_stg2_0 := iblk m c 2 t0_0
/-- The pages of keys that device `c` holds. -/
abbrev kOf (c : Dev nD) : Bf (F := F) c main_arg1 := m ((c : Thread nD τ).loc main_arg1)
/-- The pages of values that device `c` holds. -/
abbrev vOf (c : Dev nD) : Bf (F := F) c main_arg2 := m ((c : Thread nD τ).loc main_arg2)

/-- The partial result of device `c`, as a value of the memory the program starts from. -/
def partOf (c : Dev nD) : Part F := partialOf c (qOf m c) (btOf m c) (lensOf m c) (kOf m c) (vOf m c)

/-- What device `c` stores as its result. -/
def resultOf (c : Dev nD) : Bf (F := F) c cc0_stg3_0 := combined (partOf m) c

/-- The copies that are right: each device sends its own partial result. -/
abbrev right : Dev nD → Part F → Prop := fun d p => p = partOf m d

/-! ## Before and after the point -/

/-- The four page semaphores at rest. -/
def pagesRest (c : Dev nD) : sProp 𝕄 :=
  iprop(semVal ((c : Thread nD τ), .dma (⟨4, by decide⟩ : DmaSem sig)) 0 ∗ semVal ((c : Thread nD τ), .dma (⟨5, by decide⟩ : DmaSem sig)) 0
      ∗ semVal ((c : Thread nD τ), .dma (⟨6, by decide⟩ : DmaSem sig)) 0 ∗ semVal ((c : Thread nD τ), .dma (⟨7, by decide⟩ : DmaSem sig)) 0)

/-- The device's keys and values, in place and unchanged. -/
def ownKV (c : Dev nD) : sProp 𝕄 :=
  iprop(pt c (Memref.whole main_arg1) (kOf m c) ∗ pt c (Memref.whole main_arg2) (vOf m c))

/-- The device's scratch buffers, at any contents: the ring of pages, the scores, the partial result, the landing places. -/
def scratch (c : Dev nD) : sProp 𝕄 :=
  iprop((∃ f, pt (F := F) c (Memref.whole cc0_scratch0) f) ∗ (∃ f, pt (F := F) c (Memref.whole cc0_scratch2) f) ∗ (∃ f, pt (F := F) c partM f)
    ∗ (∃ f, slotPts 0 c f) ∗ (∃ f, slotPts 1 c f) ∗ (∃ f, slotPts 2 c f))

/-- What device `c` is dealt of the conversation, for some names of its records. -/
def dealt (c : Dev nD) : sProp 𝕄 :=
  iprop(∃ K, invs (right m) K c ∗ marks c ∗ places c ∗ payToks c)

/-- What a device starts from, its scratch buffers apart. -/
def start (c : Dev nD) : sProp 𝕄 :=
  iprop(dealt m c ∗ credits c ∗ levAts L lv ∗ pagesRest c ∗ ownKV m c)

/-- What the body starts from besides its windows. -/
def Φ₀ (c : Dev nD) : sProp 𝕄 := iprop(start m c ∗ scratch c)
/-- What the body leaves besides its windows. -/
def Φ₁ (c : Dev nD) : sProp 𝕄 := iprop(ownKV m c ∗ pagesRest c ∗ atRest c ∗ scratch c)

/-- The pipeline's data: the arrays as launched, what the staged blocks hold after the point, what the body holds, what it owes. -/
def dats (_ : Fin 1) (c : Dev nD) : Dat τ (Elt F) Unit ℕ UU ℕ cfg0 c where
  A w := m ((cfg0.win w).arr.view.loc (c : Thread nD τ))
  after w _ := match w with
    | ⟨0, _⟩ => qOf m c
    | ⟨1, _⟩ => btOf m c
    | ⟨2, _⟩ => lensOf m c
    | ⟨3, _⟩ => resultOf m c
  Φ t := match t with
    | ⟨0, _⟩ => Φ₀ m c
    | ⟨_ + 1, _⟩ => Φ₁ m c
  q _ := fullShare
  owed t := match t with
    | ⟨0, _⟩ => owedAll c
    | ⟨_ + 1, _⟩ => 0

omit [FloatOps F] in
/-- The queries are fetched. -/
theorem fetch_0 : (cfg0.win (0 : Fin 4)).fetch t0_0 = true := rfl
omit [FloatOps F] in
/-- The page table is fetched. -/
theorem fetch_1 : (cfg0.win (1 : Fin 4)).fetch t0_0 = true := rfl
omit [FloatOps F] in
/-- The lengths are fetched. -/
theorem fetch_2 : (cfg0.win (2 : Fin 4)).fetch t0_0 = true := rfl

omit [FloatOps F] in
/-- Owning a whole buffer at a value is holding it at contents equal to that value. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A staging buffer holding `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-- All that the body starts from. -/
def bodyPre (c : Dev nD) : sProp 𝕄 :=
  iprop(Φ₀ m c ∗ (dats m 0 c).owesAt () t0_0.castSucc
    ∗ (∃ d, stg c cc0_stg0_0 ((dats m 0 c).before (0 : Fin 4) t0_0 d))
    ∗ (∃ d, stg c cc0_stg1_0 ((dats m 0 c).before (1 : Fin 4) t0_0 d))
    ∗ (∃ d, stg c cc0_stg2_0 ((dats m 0 c).before (2 : Fin 4) t0_0 d))
    ∗ (∃ d, stg c cc0_stg3_0 ((dats m 0 c).before (3 : Fin 4) t0_0 d)))

/-- All that the body ends with. -/
def bodyPost (c : Dev nD) : sProp 𝕄 :=
  iprop(Φ₁ m c ∗ (dats m 0 c).owesAt () t0_0.succ ∗ stg c cc0_stg0_0 (qOf m c) ∗ stg c cc0_stg1_0 (btOf m c) ∗ stg c cc0_stg2_0 (lensOf m c)
    ∗ stg c cc0_stg3_0 (resultOf m c))

/-! ## The body -/

omit [FloatOps F] in
/-- The landing places, named from the peers' side. -/
theorem slots_back (c : Dev nD) : iprop((∃ f, slotPts (F := F) 0 c f) ∗ (∃ f, slotPts (F := F) 1 c f) ∗ (∃ f, slotPts (F := F) 2 c f))
    ⊢ iprop((∃ f, slotPts (F := F) (back 0) c f) ∗ (∃ f, slotPts (F := F) (back 1) c f) ∗ (∃ f, slotPts (F := F) (back 2) c f)) := by
  iintro ⟨H0, H1, H2⟩
  isplitl [H2]; · iexact H2
  isplitl [H1]; · iexact H1
  iexact H0

/-- The conversation after the device's own run, from what that run leaves to the end of the point. -/
theorem body_tail (K : Dev nD × Fin 7 → ℕ) (c : Dev nD) (fo : Bf (F := F) c cc0_stg3_0)
    (fkv : Bf (F := F) c cc0_scratch0) (fs : Bf (F := F) c cc0_scratch2) (v2 v5 v8 : BitVec 32) :
    iprop((invs (right m) K c ∗ marks c ∗ levAts L lv ∗ places c ∗ copyToks c ∗ credits c)
        ∗ (∃ fkv' fs', mine c (qOf m c) (btOf m c) (lensOf m c) (kOf m c) (vOf m c) fo fkv' fs')
        ∗ partHas c (localRun c (qOf m c) (btOf m c) (lensOf m c) (kOf m c) (vOf m c) fkv fs).1.1
        ∗ (∃ W', owes (c : Thread nD τ) (owedCopies c) W'))
      ⊢ wp frame (wpE (defs₀ (F := F)) Variants.none (c : Thread nD τ) none) Set.univ
          (tailProg c v2 v5 v8 (localRun c (qOf m c) (btOf m c) (lensOf m c) (kOf m c) (vOf m c) fkv fs).1.2)
          fun _ => wp frame (wpE (defs₀ (F := F)) Variants.none (c : Thread nD τ) none) Set.univ lastWait fun _ => bodyPost m c := by
  unfold mine
  iintro ⟨⟨HI, HM, Hlev, Hpl, Htk, Hcr⟩, ⟨%fkv', %fs', Hq, Hb, Hl, HK, HV, Ho, Hkv, Hs, P0, P1, P2, P3⟩, Hp, HO⟩
  iapply (tail (partOf m) K c _ v2 v5 v8 _ fo (partHas_full c (qOf m c) (btOf m c) (lensOf m c) (kOf m c) (vOf m c) fkv fs)
    (Kt := fun _ => bodyPost m c))
  isplitl [HI]; · iexact HI
  isplitl [HM]; · iexact HM
  isplitl [Hlev]; · iexact Hlev
  isplitl [Hpl]; · iexact Hpl
  isplitl [Htk]; · iexact Htk
  isplitl [Hcr]; · iexact Hcr
  isplitl [Ho]; · iexact Ho
  isplitl [Hp]; · iexact Hp
  isplitl [HO]; · iexact HO
  unfold after
  iintro ⟨Ho, Hp, S0, S1, S2, Hr, ⟨%W, HO⟩⟩
  unfold bodyPost Φ₁ ownKV pagesRest scratch Dat.owesAt Pipeline.owesWithin
  rw [show (dats m 0 c).owed t0_0.succ = 0 from rfl]
  isplitl [HK HV P0 P1 P2 P3 Hr Hkv Hs Hp S0 S1 S2]
  · isplitl [HK HV]
    · isplitl [HK]; · iexact HK
      iexact HV
    isplitl [P0 P1 P2 P3]
    · isplitl [P0]; · iexact P0
      isplitl [P1]; · iexact P1
      isplitl [P2]; · iexact P2
      iexact P3
    isplitl [Hr]; · iexact Hr
    isplitl [Hkv]; · iexists _; iexact Hkv
    isplitl [Hs]; · iexists _; iexact Hs
    isplitl [Hp]; · iexact Hp
    isplitl [S0]; · iexact S0
    isplitl [S1]; · iexact S1
    iexact S2
  isplitl [HO]
  · iexists W
    isplitr; · ipureintro; exact fun _ _ => Or.inl trivial
    iexact HO
  isplitl [Hq]
  · iexists _; isplitr; · (ipureintro; rfl)
    iexact Hq
  isplitl [Hb]
  · iexists _; isplitr; · (ipureintro; rfl)
    iexact Hb
  isplitl [Hl]
  · iexists _; isplitr; · (ipureintro; rfl)
    iexact Hl
  iexists _; isplitr; · (ipureintro; rfl)
  iexact Ho

/-- The body takes what the device holds before the point to what it holds after it. -/
theorem sound_body (c : Dev nD) :
    bodyPre m c ⊢ wp frame (wpE (defs₀ (F := F)) Variants.none (c : Thread nD τ) none) Set.univ bodyProg fun _ => bodyPost m c := by
  unfold bodyPre Φ₀ start dealt pagesRest ownKV scratch payToks
  iintro ⟨⟨⟨⟨%K, #HI, #HM, Hpl, T0, T1, T2, U0, U1, U2, U3, U4, U5⟩, Hcr, #Hlev, ⟨P0, P1, P2, P3⟩, HK, HV⟩, ⟨%fkv, Hkv⟩, ⟨%fs, Hs⟩, ⟨%fp, Hp⟩, S0, S1, S2⟩,
    HO, ⟨%d0, %g0, %h0, Hq⟩, ⟨%d1, %g1, %h1, Hb⟩, ⟨%d2, %g2, %h2, Hl⟩, ⟨%d3, %g3, %h3, Ho⟩⟩
  have e0 : g0 = qOf m c := by rw [h0]; unfold Dat.before; rw [if_pos fetch_0]; rfl
  have e1 : g1 = btOf m c := by rw [h1]; unfold Dat.before; rw [if_pos fetch_1]; rfl
  have e2 : g2 = lensOf m c := by rw [h2]; unfold Dat.before; rw [if_pos fetch_2]; rfl
  subst e0 e1 e2
  unfold Dat.owesAt Pipeline.owesWithin
  icases HO with ⟨%W, %hW, HO⟩
  rw [show (dats m 0 c).owed t0_0.castSucc = owedAll c from rfl]
  ihave Hs3 := (slots_back c) $$ [S0 S1 S2]
  · isplitl [S0]; · iexact S0
    isplitl [S1]; · iexact S1
    iexact S2
  icases Hs3 with ⟨B0, B1, B2⟩
  ihave Hpn := (partHas_nil c fp) $$ Hp
  iapply ((localRun c (qOf m c) (btOf m c) (lensOf m c) (kOf m c) (vOf m c) fkv fs).2 (right m) K g3 W
    iprop(invs (right m) K c ∗ marks c ∗ levAts L lv ∗ places c ∗ copyToks c ∗ credits c) (fun _ => bodyPost m c)
    (fun v2 v5 v8 => body_tail m K c g3 fkv fs v2 v5 v8))
  unfold copyToks mine
  isplitl [Hpl U0 U1 U2 U3 U4 U5 Hcr]
  · isplitr; · iexact HI
    isplitr; · iexact HM
    isplitr; · iexact Hlev
    isplitl [Hpl]; · iexact Hpl
    isplitr [Hcr]
    · isplitl [U0]; · iexact U0
      isplitl [U1]; · iexact U1
      isplitl [U2]; · iexact U2
      isplitl [U3]; · iexact U3
      isplitl [U4]; · iexact U4
      iexact U5
    iexact Hcr
  isplitl [Hq Hb Hl HK HV Ho Hkv Hs P0 P1 P2 P3]
  · isplitl [Hq]; · iexact Hq
    isplitl [Hb]; · iexact Hb
    isplitl [Hl]; · iexact Hl
    isplitl [HK]; · iexact HK
    isplitl [HV]; · iexact HV
    isplitl [Ho]; · iexact Ho
    isplitl [Hkv]; · iexact Hkv
    isplitl [Hs]; · iexact Hs
    isplitl [P0]; · iexact P0
    isplitl [P1]; · iexact P1
    isplitl [P2]; · iexact P2
    iexact P3
  isplitl [Hpn]; · iexact Hpn
  isplitl [B0]; · iexact B0
  isplitl [B1]; · iexact B1
  isplitl [B2]; · iexact B2
  isplitr; · iexact HI
  isplitr; · iexact HM
  isplitl [T0]; · iexact T0
  isplitl [T1]; · iexact T1
  isplitl [T2]; · iexact T2
  isplitr; · iexact Hlev
  iexact HO

set_option maxRecDepth 20000 in
/-- What the pipeline asks of the body. -/
theorem body_obligation (c : Dev nD) : BodyObligation (dats (F := F) m 0 c) (defs₀ (F := F)) Variants.none () Set.univ := fun t => by
  rw [fin_N0 t, bigSep_W0, bigSep_W0]
  simp only [owns_whole_eq]
  exact sound_body m c

end Cert.Talk
end
-- ==== Proof.Launch.lean ====
/-
# The launch

Sixteen devices start together. This module deals each of them its part of the conversation — the records of its seven
semaphores and of its peers', its places, the tokens of the payments it makes, the credit it waits with — and its buffers, and
concludes that the program runs: it terminates, every device's result array holds the combined partial results, the arguments are
unchanged, and every semaphore counter is zero again.
-/
module

public import proofs.«01_k».proof.Proof.Body
public import Idealize.ShloMosaic.Lib.Ring
public import Idealize.ShloMosaic.Lib.Pipeline.CollectiveSegs

@[expose] public section

noncomputable section

namespace Cert.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Cfg Window BodyObligation)

variable (m : (ℓ : Loc nD τ sig) → Buf (Elt F) ℓ) (ρ : Dev nD → PrngReg)

/-! ## Semaphores and tokens -/

/-- The kernel's own copy semaphores: the pages' four, the departures' three, the landings' three. -/
abbrev osem : Fin 10 → SemLoc sig := fun
  | 0 => .dma ⟨4, by decide⟩ | 1 => .dma ⟨5, by decide⟩ | 2 => .dma ⟨6, by decide⟩ | 3 => .dma ⟨7, by decide⟩
  | 4 => .dma (sendS 0) | 5 => .dma (sendS 1) | 6 => .dma (sendS 2) | 7 => .dma (recvS 0) | 8 => .dma (recvS 1) | 9 => .dma (recvS 2)

/-- The kernel's own semaphores are distinct from the pipeline's. -/
theorem ownSemFacts : Pipeline.OwnSemFacts cfg0.spec osem := by decide

/-- Every window's buffer is held whole. -/
theorem share_eq (c : Dev nD) (w : Fin cfg0.W) : (dats m 0 c).share w = fullShare := by unfold Dat.share; split <;> rfl

/-- The seven semaphores are different. -/
theorem csem_injective : Function.Injective csem := by decide

/-- Different devices or numbers give different semaphores. -/
theorem kcell_injective : Function.Injective (kcell : Dev nD × Fin 7 → GSem nD τ sig) := by
  rintro ⟨c, k⟩ ⟨c', k'⟩ h
  have h1 : c = c' := congrArg (fun g : GSem nD τ sig => g.1.1) h
  subst h1
  exact congrArg (Prod.mk c) (csem_injective (congrArg Prod.snd h))

/-- All semaphores of all conversations. -/
def talkCells : Finset (GSem nD τ sig) := Finset.univ.map ⟨kcell, kcell_injective⟩

/-- Which of a device's semaphores each of its nine tokens belongs to, and its number there. -/
abbrev tokAt : Fin 9 → Fin 7 × Fin 3 := fun
  | 0 => (0, 0) | 1 => (0, 1) | 2 => (0, 2) | 3 => (4, 0) | 4 => (5, 0) | 5 => (6, 0) | 6 => (1, 0) | 7 => (2, 0) | 8 => (3, 0)
/-- The nine tokens are different. -/
theorem tokAt_injective : Function.Injective tokAt := by decide
/-- The token numbered `j` of device `c`. -/
abbrev tokOf (cj : Dev nD × Fin 9) : GSem nD τ sig × ℕ × Fin 3 := (kcell (cj.1, (tokAt cj.2).1), 0, (tokAt cj.2).2)
/-- Different devices or numbers give different tokens. -/
theorem tokOf_injective : Function.Injective tokOf := by
  rintro ⟨c, j⟩ ⟨c', j'⟩ h
  have h1 := kcell_injective (congrArg Prod.fst h)
  have h2 : (tokAt j).2 = (tokAt j').2 := congrArg (fun x : GSem nD τ sig × ℕ × Fin 3 => x.2.2) h
  have hc : c = c' := congrArg Prod.fst h1
  have hj : j = j' := tokAt_injective (Prod.ext (congrArg Prod.snd h1) h2)
  rw [hc, hj]
/-- All tokens of the conversation. -/
def talkToks : Finset (GSem nD τ sig × ℕ × Fin 3) := Finset.univ.map ⟨tokOf, tokOf_injective⟩

/-- The resources the launch starts with: the pipeline's and the conversation's. -/
def u₀ : UU :=
  (initOf (Pipeline.cells cfgs cellOf_inj) (Pipeline.launchToks cfgs cellOf_inj), (Emb.inl : Emb UB (UB × Counters)) (initOf talkCells talkToks))

/-- The tokens of device `c`'s own semaphores. -/
def toks (c : Dev nD) : sProp 𝕄 :=
  iprop(dutyTok ER (barCell c) 0 0 ∗ dutyTok ER (barCell c) 0 1 ∗ dutyTok ER (barCell c) 0 2
    ∗ dutyTok ER (recvCell 0 c) 0 0 ∗ dutyTok ER (recvCell 1 c) 0 0 ∗ dutyTok ER (recvCell 2 c) 0 0
    ∗ dutyTok ER (sendCell 0 c) 0 0 ∗ dutyTok ER (sendCell 1 c) 0 0 ∗ dutyTok ER (sendCell 2 c) 0 0)

/-- What each device gets of those resources before anything is shared. -/
def G (c : Dev nD) : sProp 𝕄 :=
  iprop((bigSep Finset.univ fun k : Fin 7 => roundState ER (talk (right m)) (kcell (c, k)) 0)
    ∗ (bigSep Finset.univ fun k : Fin 7 => iprop(atPos ER (kcell (c, k)) 0 ∅ 0 ∗ reached ER (kcell (c, k)) 0)) ∗ toks c)

/-- What it has once the records are shared. -/
def G' (c : Dev nD) : sProp 𝕄 := iprop(dealt m c ∗ pagesRest c)

omit [FloatOps F] in
/-- A conjunction over seven, written out. -/
theorem bigSep_fin7 (Φ : Fin 7 → sProp 𝕄) : bigSep Finset.univ Φ = iprop(Φ 0 ∗ Φ 1 ∗ Φ 2 ∗ Φ 3 ∗ Φ 4 ∗ Φ 5 ∗ Φ 6) := bigSep_univ_eq_bigSepL [0, 1, 2, 3, 4, 5, 6] (by decide) (by decide) Φ
omit [FloatOps F] in
/-- A conjunction over nine, written out. -/
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) := bigSep_univ_eq_bigSepL [0, 1, 2, 3, 4, 5, 6, 7, 8] (by decide) (by decide) Φ

/-- The conversation's resources, device by device. -/
theorem fund_talk : BI.own (ER (initOf talkCells talkToks)) ⊢ (|==> bigSep Finset.univ (G m) : sProp 𝕄) := by
  have hX (Φ : GSem nD τ sig → sProp 𝕄) : bigSep talkCells Φ = bigSep Finset.univ fun c : Dev nD => bigSep Finset.univ fun k : Fin 7 => Φ (kcell (c, k)) := by
    unfold talkCells; rw [bigSep_map, bigSep_univ_prod]; rfl
  have hT : bigSep talkToks (fun x => (dutyTok ER x.1 x.2.1 x.2.2 : sProp 𝕄)) = bigSep Finset.univ fun c : Dev nD => toks c := by
    unfold talkToks; rw [bigSep_map, bigSep_univ_prod]
    exact bigSep_congr fun c _ => by unfold toks; rw [bigSep_fin9]; rfl
  iintro HX
  imod (Rounds.fund ER (talk (right m)) talkCells talkToks) $$ HX with ⟨Hst, Hr, Hat, Htok⟩
  imodintro
  ihave Hst' := (Entails.of_eq (hX fun g => roundState ER (talk (right m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The kernel's own semaphores at zero, written out. -/
theorem ownSems0_eq (c : Dev nD) : (Pipeline.ownSems0 (Ix := Unit) (Name := ℕ) (U := UU) (Lvl := ℕ) (Val := Elt F) (τ := τ) osem c : sProp 𝕄)
    = iprop(semVal ((c : Thread nD τ), .dma (⟨4, by decide⟩ : DmaSem sig)) 0 ∗ semVal ((c : Thread nD τ), .dma (⟨5, by decide⟩ : DmaSem sig)) 0
      ∗ semVal ((c : Thread nD τ), .dma (⟨6, by decide⟩ : DmaSem sig)) 0 ∗ semVal ((c : Thread nD τ), .dma (⟨7, by decide⟩ : DmaSem sig)) 0
      ∗ semVal (sendCell 0 c) 0 ∗ semVal (sendCell 1 c) 0 ∗ semVal (sendCell 2 c) 0
      ∗ semVal (recvCell 0 c) 0 ∗ semVal (recvCell 1 c) 0 ∗ semVal (recvCell 2 c) 0) := by
  rw [Pipeline.ownSems0_eq_of_list c osem [0, 1, 2, 3, 4, 5, 6, 7, 8, 9] (by decide) (by decide)]; rfl
omit [FloatOps F] in
/-- The only other semaphore at zero is the barrier. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- A device's semaphores at zero: the conversation's seven and the pages' four. -/
theorem sems0_eq (c : Dev nD) :
    iprop(Pipeline.ownSems0 (Ix := Unit) (Name := ℕ) (U := UU) (Lvl := ℕ) (Val := Elt F) (τ := τ) osem c ∗ unscopedSems0 c)
      ⊢ iprop((bigSep Finset.univ fun k : Fin 7 => semVal (kcell (c, k)) 0) ∗ pagesRest c : sProp 𝕄) := by
  rw [ownSems0_eq, unscopedSems0_eq, bigSep_fin7]
  unfold pagesRest
  iintro ⟨⟨P0, P1, P2, P3, S0, S1, S2, R0, R1, R2⟩, HB⟩
  isplitr [P0 P1 P2 P3]
  · isplitl [HB]; · iexact HB
    isplitl [S0]; · iexact S0
    isplitl [S1]; · iexact S1
    isplitl [S2]; · iexact S2
    isplitl [R0]; · iexact R0
    isplitl [R1]; · iexact R1
    iexact R2
  isplitl [P0]; · iexact P0
  isplitl [P1]; · iexact P1
  isplitl [P2]; · iexact P2
  iexact P3

/-- One device's records set up. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (talk (right m)) κ (kcell (c, k))))
          ∗ (bigSep Finset.univ fun k => iprop(atPos ER (kcell (c, k)) 0 ∅ 0 ∗ reached ER (kcell (c, k)) 0)) ∗ toks c ∗ pagesRest c) := by
  unfold G
  iintro ⟨Hos, Hus, Hst, Hat, Htok⟩
  ihave Hv := (sems0_eq (F := F) c) $$ [Hos Hus]
  · isplitl [Hos] <;> iassumption
  icases Hv with ⟨Hv, Hpg⟩
  imod (show iprop((bigSep Finset.univ fun k : Fin 7 => semVal (kcell (c, k)) 0) ∗ bigSep Finset.univ fun k : Fin 7 => roundState ER (talk (right m)) (kcell (c, k)) 0)
      ⊢ (|={Set.univ}=> bigSep Finset.univ fun k => iprop(∃ κ : ℕ, cellInv ER (talk (right m)) κ (kcell (c, k))) : sProp 𝕄) from by
        rw [← bigSep_sep']
        exact (bigSep_mono fun k _ => (Rounds.body_intro ER (talk (right m)) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hpg

/-- All records and all opening marks. -/
def records (K : Dev nD × Fin 7 → ℕ) : sProp 𝕄 :=
  iprop((bigSep Finset.univ fun ck : Dev nD × Fin 7 => cellInv ER (talk (right m)) (K ck) (kcell ck))
    ∗ bigSep Finset.univ fun ck : Dev nD × Fin 7 => reached ER (kcell ck) 0)

/-- The records can be used any number of times. -/
instance records_persistent (K : Dev nD × Fin 7 → ℕ) : BI.Persistent (records m K) := by unfold records; infer_instance

/-- Out of the records of all semaphores, that of one. -/
theorem inv_at (K : Dev nD × Fin 7 → ℕ) (ck : Dev nD × Fin 7) :
    (bigSep Finset.univ fun ck : Dev nD × Fin 7 => (cellInv ER (talk (right m)) (K ck) (kcell ck) : sProp 𝕄)) ⊢ cellInv ER (talk (right m)) (K ck) (kcell ck) :=
  bigSep_elim (Finset.mem_univ ck)
omit [FloatOps F] in
/-- Out of the marks of all semaphores, that of one. -/
theorem reached_at (ck : Dev nD × Fin 7) :
    (bigSep Finset.univ fun ck : Dev nD × Fin 7 => (reached ER (kcell ck) 0 : sProp 𝕄)) ⊢ reached ER (kcell ck) 0 :=
  bigSep_elim (Finset.mem_univ ck)

/-- What only device `c` has: its places, the tokens of its payments and its page semaphores. -/
def alone (c : Dev nD) : sProp 𝕄 :=
  iprop((bigSep Finset.univ fun k : Fin 7 => (atPos ER (kcell (c, k)) 0 ∅ 0 : sProp 𝕄)) ∗ payToks c ∗ pagesRest c)

/-- The records and a device's own things make what that device starts from. -/
theorem deal (K : Dev nD × Fin 7 → ℕ) (c : Dev nD) : iprop(records m K ∗ alone c) ⊢ G' m c := by
  unfold records alone G' dealt invs marks places
  rw [bigSep_fin7]
  iintro ⟨⟨#HI, #HR⟩, HA, Htok, Hpg⟩
  isplitr [Hpg]
  · iexists K
    isplitr
    · isplitr; · iapply (inv_at m K (c, 0)); iexact HI
      isplitr; · iapply (inv_at m K (c, 1)); iexact HI
      isplitr; · iapply (inv_at m K (c, 2)); iexact HI
      isplitr; · iapply (inv_at m K (c, 3)); iexact HI
      isplitr; · iapply (inv_at m K (c, 4)); iexact HI
      isplitr; · iapply (inv_at m K (c, 5)); iexact HI
      isplitr; · iapply (inv_at m K (c, 6)); iexact HI
      isplitr; · iapply (inv_at m K (peer 0 c, 0)); iexact HI
      isplitr; · iapply (inv_at m K (peer 1 c, 0)); iexact HI
      isplitr; · iapply (inv_at m K (peer 2 c, 0)); iexact HI
      isplitr; · iapply (inv_at m K (peer 0 c, 4)); iexact HI
      isplitr; · iapply (inv_at m K (peer 1 c, 5)); iexact HI
      iapply (inv_at m K (peer 2 c, 6)); iexact HI
    isplitr
    · isplitr; · iapply (reached_at (F := F) (peer 0 c, 0)); iexact HR
      isplitr; · iapply (reached_at (F := F) (peer 1 c, 0)); iexact HR
      isplitr; · iapply (reached_at (F := F) (peer 2 c, 0)); iexact HR
      isplitr; · iapply (reached_at (F := F) (peer 0 c, 4)); iexact HR
      isplitr; · iapply (reached_at (F := F) (peer 1 c, 5)); iexact HR
      isplitr; · iapply (reached_at (F := F) (peer 2 c, 6)); iexact HR
      isplitr; · iapply (reached_at (F := F) (c, 1)); iexact HR
      isplitr; · iapply (reached_at (F := F) (c, 2)); iexact HR
      isplitr; · iapply (reached_at (F := F) (c, 3)); iexact HR
      isplitr; · iapply (reached_at (F := F) (c, 4)); iexact HR
      isplitr; · iapply (reached_at (F := F) (c, 5)); iexact HR
      iapply (reached_at (F := F) (c, 6)); iexact HR
    isplitl [HA]; · iexact HA
    iexact Htok
  iexact Hpg

omit [FloatOps F] in
/-- The tokens handed to those who pay with them. -/
theorem toks_turned : (bigSep Finset.univ fun c : Dev nD => (toks c : sProp 𝕄)) ⊢ bigSep Finset.univ fun c : Dev nD => payToks c := by
  unfold toks payToks
  simp only [bigSep_sep']
  rw [bigSep_univ_equiv (turn 0) (fun c : Dev nD => (dutyTok ER (barCell c) 0 0 : sProp 𝕄)),
    bigSep_univ_equiv (turn 1) (fun c : Dev nD => (dutyTok ER (barCell c) 0 1 : sProp 𝕄)),
    bigSep_univ_equiv (turn 2) (fun c : Dev nD => (dutyTok ER (barCell c) 0 2 : sProp 𝕄)),
    bigSep_univ_equiv (turn 0) (fun c : Dev nD => (dutyTok ER (recvCell 0 c) 0 0 : sProp 𝕄)),
    bigSep_univ_equiv (turn 1) (fun c : Dev nD => (dutyTok ER (recvCell 1 c) 0 0 : sProp 𝕄)),
    bigSep_univ_equiv (turn 2) (fun c : Dev nD => (dutyTok ER (recvCell 2 c) 0 0 : sProp 𝕄))]
  exact BI.Entails.refl _

omit [FloatOps F] in
/-- What can be used any number of times may be used at each part of a conjunction. -/
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- What all semaphores were set up with, dealt out to the devices. -/
theorem regroup :
    (bigSep Finset.univ fun c : Dev nD => iprop((bigSep Finset.univ fun k => iprop(∃ κ : ℕ, cellInv ER (talk (right m)) κ (kcell (c, k))))
          ∗ (bigSep Finset.univ fun k => iprop(atPos ER (kcell (c, k)) 0 ∅ 0 ∗ reached ER (kcell (c, k)) 0)) ∗ toks c ∗ pagesRest c) : sProp 𝕄)
      ⊢ bigSep Finset.univ (G' m) := by
  rw [bigSep_sep', bigSep_sep', bigSep_sep', ← bigSep_univ_prod (fun ck : Dev nD × Fin 7 => iprop(∃ κ : ℕ, cellInv ER (talk (right m)) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok, Hpg⟩
  ihave HK := (BI.bigSep_exists_pi Finset.univ (fun (ck : Dev nD × Fin 7) (κ : ℕ) => (cellInv ER (talk (right m)) κ (kcell ck) : sProp 𝕄))) $$ HI
  icases HK with ⟨%K, #HI⟩
  ihave Htk := (toks_turned (F := F)) $$ Htok
  iapply (bigSep_with (R := records m K) fun c _ => deal m K c)
  isplitr
  · unfold records; isplitl; · iexact HI
    iexact HR
  · unfold alone
    rw [bigSep_sep', bigSep_sep']
    isplitl [Hat]; · iexact Hat
    isplitl [Htk]; · iexact Htk
    iexact Hpg

/-- The records shared among all devices at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit -/

omit [FloatOps F] in
/-- Peer `i` of `d` is `c` exactly if `d` is `c`'s peer the other way. -/
theorem peer_eq (i : Fin 3) (d c : Dev nD) : c = peer i d ↔ d = peer (back i) c :=
  ⟨fun h => by rw [h, back_peer], fun h => by rw [h, peer_back]⟩

/-- A barrier is that of peer `i` of `d` just when `d` is the opposite peer. -/
theorem bar_hit (i : Fin 3) (d c : Dev nD) : (barCell c = barCell (peer i d)) ↔ d = peer (back i) c :=
  ⟨fun h => (peer_eq i d c).mp (congrArg (fun g : GSem nD τ sig => g.1.1) h), fun h => by rw [← (peer_eq i d c).mpr h]⟩
/-- The three landing semaphores are different. -/
theorem recvS_injective : Function.Injective recvS := by decide
/-- A landing is the one that `d` copies into at peer `i` just when the places agree and `d` is the opposite peer. -/
theorem recv_hit (i j : Fin 3) (d c : Dev nD) : (recvCell j c = recvCell i (peer i d)) ↔ (j = i ∧ d = peer (back i) c) :=
  ⟨fun h => ⟨recvS_injective (SemLoc.dma.inj (congrArg Prod.snd h)), (peer_eq i d c).mp (congrArg (fun g : GSem nD τ sig => g.1.1) h)⟩,
    fun ⟨h1, h2⟩ => by rw [h1, ← (peer_eq i d c).mpr h2]⟩
/-- A barrier is no landing. -/
theorem bar_recv (i : Fin 3) (d c : Dev nD) : (barCell c = recvCell i d) ↔ False := Iff.intro (fun h => nomatch (congrArg Prod.snd h)) False.elim
/-- A landing is no barrier. -/
theorem recv_bar (i : Fin 3) (d c : Dev nD) : (recvCell i c = barCell d) ↔ False := Iff.intro (fun h => nomatch (congrArg Prod.snd h)) False.elim

/-- What `d` owes `c`'s barrier. -/
theorem owed_bar (d c : Dev nD) : owedAll d (barCell c) ()
    = (if d = peer (back 2) c then 1 else 0) + (if d = peer (back 1) c then 1 else 0) + (if d = peer (back 0) c then 1 else 0) := by
  unfold owedAll owedCopies
  simp only [Pi.add_apply, Finsupp.add_apply, tallyAt_apply, bar_hit, bar_recv, and_true, false_and, if_false, Nat.zero_add]
/-- What `d` owes `c`'s landing `j`. -/
theorem owed_recv (j : Fin 3) (d c : Dev nD) : owedAll d (recvCell j c) () = if d = peer (back j) c then N else 0 := by
  unfold owedAll owedCopies
  simp only [Pi.add_apply, Finsupp.add_apply, tallyAt_apply, recv_hit, recv_bar, and_true, false_and, if_false, Nat.add_zero]
  have h : ∀ j : Fin 3, j = 0 ∨ j = 1 ∨ j = 2 := by decide
  rcases h j with rfl | rfl | rfl
  · rw [if_neg (fun h => absurd h.1 (by decide)), if_neg (fun h => absurd h.1 (by decide))]; simp only [true_and, Nat.zero_add]
  · rw [if_neg (fun h => absurd h.1 (by decide)), if_neg (c := (1 : Fin 3) = 0 ∧ _) (fun h => absurd h.1 (by decide))]; simp only [true_and, Nat.zero_add, Nat.add_zero]
  · rw [if_neg (c := (2 : Fin 3) = 1 ∧ _) (fun h => absurd h.1 (by decide)), if_neg (c := (2 : Fin 3) = 0 ∧ _) (fun h => absurd h.1 (by decide))]; simp only [true_and, Nat.add_zero]

/-- All devices together owe three raises to each barrier. -/
theorem launch_bar (c : Dev nD) :
    tallyOn (barCell c) (launchCredit (Pipeline.owing owedAll) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (peer (back 2) c) fun _ => 1, Finset.sum_ite_eq' Finset.univ (peer (back 1) c) fun _ => 1,
    Finset.sum_ite_eq' Finset.univ (peer (back 0) c) fun _ => 1, if_pos (Finset.mem_univ _), if_pos (Finset.mem_univ _), if_pos (Finset.mem_univ _)]
/-- All devices together owe one copy to each landing. -/
theorem launch_recv (j : Fin 3) (c : Dev nD) :
    tallyOn (recvCell j c) (launchCredit (Pipeline.owing owedAll) 0 (recvCell j c)) = (tallyAt (recvCell j c) () N : CellTallies nD τ sig Unit) := by
  unfold tallyAt; refine congrArg _ (Finsupp.ext fun u => ?_); cases u
  rw [Pipeline.launchCredit_owing, Finsupp.single_eq_same, Finset.sum_congr rfl fun d _ => owed_recv j d c, Finset.sum_ite_eq' Finset.univ (peer (back j) c) fun _ => N,
    if_pos (Finset.mem_univ _)]

omit [FloatOps F] in
/-- The launch gives a device the credits it waits with. -/
theorem creds (c : Dev nD) : (Pipeline.launchCred owedAll c : sProp 𝕄) ⊢ credits c := by
  unfold Pipeline.launchCred credits
  refine (BI.bigSep_subset (t := [SemLoc.reg barS, .dma (recvS 0), .dma (recvS 1), .dma (recvS 2)].toFinset) (Finset.subset_univ _)).trans ?_
  rw [bigSep_eq_bigSepL_of_eq [SemLoc.reg barS, .dma (recvS 0), .dma (recvS 1), .dma (recvS 2)] rfl (by decide), bigSepL_cons_cons, bigSepL_cons_cons, bigSepL_cons_cons, bigSepL_singleton]
  rw [launch_bar, launch_recv 0, launch_recv 1, launch_recv 2]
  exact BI.Entails.refl _

/-! ## Buffers in and out -/

/-- Landing place `i` is where the first index is `i`. -/
theorem mem_slot0 (x : S3x3x8x8x128.Idx) : x ∈ (slotM 0).view.set ↔ (x 0).val = 0 := by
  rw [slot_set0]
  refine (show x ∈ ((View.whole cc0_scratch4 : View sig .tc _ _ _).setOn (Rect.unit (s := S3x3x8x8x128) ![0, 0, 0, 0, 0] S1x3x8x8x128.size inb_S3x3x8x8x128_S1x3x8x8x128_0_0_0_0_0).set) ↔ _ from ?_)
  rw [show (View.whole cc0_scratch4 : View sig .tc _ _ _).setOn (Rect.unit (s := S3x3x8x8x128) ![0, 0, 0, 0, 0] S1x3x8x8x128.size inb_S3x3x8x8x128_S1x3x8x8x128_0_0_0_0_0).set
    = (Rect.unit (s := S3x3x8x8x128) ![0, 0, 0, 0, 0] S1x3x8x8x128.size inb_S3x3x8x8x128_S1x3x8x8x128_0_0_0_0_0).set from Finset.map_refl, Rect.mem_set_unit]
  constructor
  · intro h
    have h0 := h 0
    have h1 : 0 ≤ (x 0).val ∧ (x 0).val < 0 + 1 := h0
    omega
  · intro h a
    have ha := (x a).isLt
    fin_cases a
    · exact (show 0 ≤ (x 0).val ∧ (x 0).val < 0 + 1 by omega)
    all_goals exact ⟨Nat.zero_le _, by simpa using ha⟩
/-- Landing place 1 is made of the entries whose first index is 1. -/
theorem mem_slot1 (x : S3x3x8x8x128.Idx) : x ∈ (slotM 1).view.set ↔ (x 0).val = 1 := by
  rw [slot_set1]
  refine (show x ∈ ((View.whole cc0_scratch4 : View sig .tc _ _ _).setOn (Rect.unit (s := S3x3x8x8x128) ![1, 0, 0, 0, 0] S1x3x8x8x128.size inb_S3x3x8x8x128_S1x3x8x8x128_1_0_0_0_0).set) ↔ _ from ?_)
  rw [show (View.whole cc0_scratch4 : View sig .tc _ _ _).setOn (Rect.unit (s := S3x3x8x8x128) ![1, 0, 0, 0, 0] S1x3x8x8x128.size inb_S3x3x8x8x128_S1x3x8x8x128_1_0_0_0_0).set
    = (Rect.unit (s := S3x3x8x8x128) ![1, 0, 0, 0, 0] S1x3x8x8x128.size inb_S3x3x8x8x128_S1x3x8x8x128_1_0_0_0_0).set from Finset.map_refl, Rect.mem_set_unit]
  constructor
  · intro h
    have h0 := h 0
    have h1 : 1 ≤ (x 0).val ∧ (x 0).val < 1 + 1 := h0
    omega
  · intro h a
    have ha := (x a).isLt
    fin_cases a
    · exact (show 1 ≤ (x 0).val ∧ (x 0).val < 1 + 1 by omega)
    all_goals exact ⟨Nat.zero_le _, by simpa using ha⟩
/-- Landing place 2 is made of the entries whose first index is 2. -/
theorem mem_slot2 (x : S3x3x8x8x128.Idx) : x ∈ (slotM 2).view.set ↔ (x 0).val = 2 := by
  rw [slot_set2]
  refine (show x ∈ ((View.whole cc0_scratch4 : View sig .tc _ _ _).setOn (Rect.unit (s := S3x3x8x8x128) ![2, 0, 0, 0, 0] S1x3x8x8x128.size inb_S3x3x8x8x128_S1x3x8x8x128_2_0_0_0_0).set) ↔ _ from ?_)
  rw [show (View.whole cc0_scratch4 : View sig .tc _ _ _).setOn (Rect.unit (s := S3x3x8x8x128) ![2, 0, 0, 0, 0] S1x3x8x8x128.size inb_S3x3x8x8x128_S1x3x8x8x128_2_0_0_0_0).set
    = (Rect.unit (s := S3x3x8x8x128) ![2, 0, 0, 0, 0] S1x3x8x8x128.size inb_S3x3x8x8x128_S1x3x8x8x128_2_0_0_0_0).set from Finset.map_refl, Rect.mem_set_unit]
  constructor
  · intro h
    have h0 := h 0
    have h1 : 2 ≤ (x 0).val ∧ (x 0).val < 2 + 1 := h0
    omega
  · intro h a
    have ha := (x a).isLt
    fin_cases a
    · exact (show 2 ≤ (x 0).val ∧ (x 0).val < 2 + 1 by omega)
    all_goals exact ⟨Nat.zero_le _, by simpa using ha⟩

/-- The elements of the three landing places. -/
abbrev slotSet : Fin 3 → Finset S3x3x8x8x128.Idx
  | 0 => (slotM 0).view.set
  | 1 => (slotM 1).view.set
  | 2 => (slotM 2).view.set
/-- Landing place `i` is made of the entries whose first index is `i`. -/
theorem mem_slotSet (i : Fin 3) (x : S3x3x8x8x128.Idx) : x ∈ slotSet i ↔ (x 0).val = i.val := by
  match i with
  | 0 => exact mem_slot0 x
  | 1 => exact mem_slot1 x
  | 2 => exact mem_slot2 x
/-- Different landing places share no entry. -/
theorem slot_disjoint (i j : Fin 3) (h : i ≠ j) : Disjoint (slotSet i) (slotSet j) :=
  Finset.disjoint_left.mpr fun x hi hj => h (Fin.ext (((mem_slotSet i x).mp hi).symm.trans ((mem_slotSet j x).mp hj)))
/-- The three landing places make up the buffer. -/
theorem slot_cover : Finset.univ.biUnion slotSet = (Finset.univ : Finset S3x3x8x8x128.Idx) :=
  Finset.eq_univ_of_forall fun x => Finset.mem_biUnion.mpr ⟨⟨(x 0).val, (x 0).isLt⟩, Finset.mem_univ _, (mem_slotSet _ x).mpr rfl⟩

omit [FloatOps F] in
/-- The three landing places, written out. -/
theorem slots_eq (c : Dev nD) : (bigSep Finset.univ fun i : Fin 3 => iprop(∃ f : Buf (Elt F) ((c : Thread nD τ).loc cc0_scratch4), ((c : Thread nD τ).loc cc0_scratch4) ↦[slotSet i]{fullShare} f) : sProp 𝕄)
    = iprop((∃ f, slotPts 0 c f) ∗ (∃ f, slotPts 1 c f) ∗ (∃ f, slotPts 2 c f)) := by
  rw [bigSep_univ_eq_bigSepL [0, 1, 2] (by decide) (by decide), bigSepL_cons_cons, bigSepL_cons_cons, bigSepL_singleton]
  rfl
omit [FloatOps F] in
/-- A landing place that holds something. -/
theorem slot_some (c : Dev nD) (i : Fin 3) (f : Buf (Elt F) ((c : Thread nD τ).loc cc0_scratch4)) :
    (((c : Thread nD τ).loc cc0_scratch4) ↦[slotSet i]{fullShare} f : sProp 𝕄)
      ⊢ iprop(∃ f : Buf (Elt F) ((c : Thread nD τ).loc cc0_scratch4), ((c : Thread nD τ).loc cc0_scratch4) ↦[slotSet i]{fullShare} f) := by
  iintro H
  iexists f
  iexact H
omit [FloatOps F] in
/-- The buffer of the landing places is the three places, -/
theorem slots_split (c : Dev nD) : iprop(∃ f : Buf (Elt F) ((c : Thread nD τ).loc cc0_scratch4), ((c : Thread nD τ).loc cc0_scratch4) ↦{fullShare} f)
    ⊢ (iprop((∃ f, slotPts 0 c f) ∗ (∃ f, slotPts 1 c f) ∗ (∃ f, slotPts 2 c f)) : sProp 𝕄) := by
  rw [← slots_eq]
  iintro ⟨%f, H⟩
  ihave H := (Entails.of_eq (Ring.pointsTo_blocks (ℓ := (c : Thread nD τ).loc cc0_scratch4) slotSet slot_disjoint slot_cover f)) $$ H
  have hm : (bigSep Finset.univ fun i : Fin 3 => ((c : Thread nD τ).loc cc0_scratch4) ↦[slotSet i]{fullShare} f : sProp 𝕄)
      ⊢ bigSep Finset.univ fun i : Fin 3 => iprop(∃ f : Buf (Elt F) ((c : Thread nD τ).loc cc0_scratch4), ((c : Thread nD τ).loc cc0_scratch4) ↦[slotSet i]{fullShare} f) :=
    bigSep_mono fun i _ => slot_some c i f
  ihave H := hm $$ H
  iexact H
omit [FloatOps F] in
/-- and the three places are the buffer again. -/
theorem slots_join (c : Dev nD) (f₀ : Buf (Elt F) ((c : Thread nD τ).loc cc0_scratch4)) : (iprop((∃ f, slotPts 0 c f) ∗ (∃ f, slotPts 1 c f) ∗ (∃ f, slotPts 2 c f)) : sProp 𝕄)
    ⊢ iprop(∃ f : Buf (Elt F) ((c : Thread nD τ).loc cc0_scratch4), ((c : Thread nD τ).loc cc0_scratch4) ↦{fullShare} f) := by
  rw [← slots_eq]
  exact Ring.pointsTo_blocks_join_exists (ℓ := (c : Thread nD τ).loc cc0_scratch4) slotSet slot_disjoint slot_cover f₀

/-- The arrays that the pipeline does not move: the keys and the values. -/
theorem rest_eq (c : Dev nD) : (Pipeline.unscopedRestP Pipeline.Prefetch.none cfg0.spec c (fun b => m ((c : Thread nD τ).loc b)) : sProp 𝕄)
    = iprop(pt c (Memref.whole main_arg1) (kOf m c) ∗ pt c (Memref.whole main_arg2) (vOf m c)) := by
  rw [Pipeline.unscopedRestP_eq_of_list cfg0.spec c Pipeline.Prefetch.none _ [main_arg1, main_arg2] (by decide) (by decide), bigSepL_cons_cons, bigSepL_singleton]
  rfl

/-- What each device's body starts from. -/
theorem start_intro (c : Dev nD) :
    iprop(Pipeline.unscopedRestP Pipeline.Prefetch.none cfg0.spec c (fun b => m ((c : Thread nD τ).loc b)) ∗ levAts L lv
        ∗ Pipeline.launchCred owedAll c ∗ prngReg c (ρ c) ∗ G' m c)
      ⊢ |={Set.univ}=> iprop(start m c ∗ emp) := by
  rw [rest_eq]
  unfold start G' ownKV
  iintro ⟨⟨HK, HV⟩, Hlev, Hcr, -, HD, Hpg⟩
  ihave Hc := (creds (F := F) c) $$ Hcr
  imodintro
  isplitl
  · isplitl [HD]; · iexact HD
    isplitl [Hc]; · iexact Hc
    isplitl [Hlev]; · iexact Hlev
    isplitl [Hpg]; · iexact Hpg
    isplitl [HK]; · iexact HK
    iexact HV
  · iempintro

/-- What the launch gives a device is what its body starts from. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hkv, Hsc, Hp, Hsl⟩
  isplitl [Hs]; · iexact Hs
  isplitl [Hkv]; · iexact Hkv
  isplitl [Hsc]; · iexact Hsc
  isplitl [Hp]; · iexact Hp
  iapply (slots_split c) $$ Hsl

/-- What the body leaves is what the launch takes back. -/
theorem phi1_exit (c : Dev nD) :
    (dats m 0 c).Φ (Fin.last cfg0.N) ⊢ iprop((unscopedSems0 c ∗ ownKV m c) ∗ Pipeline.ownSems0 osem c ∗ Pipeline.scopedRest cfg0.spec c) := by
  rw [show (dats m 0 c).Φ (Fin.last cfg0.N) = Φ₁ m c from rfl, scopedRest0_eq, ownSems0_eq, unscopedSems0_eq]
  unfold Φ₁ scratch atRest pagesRest
  iintro ⟨HKV, ⟨P0, P1, P2, P3⟩, ⟨HB, S0, S1, S2, R0, R1, R2⟩, Hkv, Hsc, Hp, Hsl⟩
  isplitl [HB HKV]
  · isplitl [HB]; · iexact HB
    iexact HKV
  isplitl [P0 P1 P2 P3 S0 S1 S2 R0 R1 R2]
  · isplitl [P0]; · iexact P0
    isplitl [P1]; · iexact P1
    isplitl [P2]; · iexact P2
    isplitl [P3]; · iexact P3
    isplitl [S0]; · iexact S0
    isplitl [S1]; · iexact S1
    isplitl [S2]; · iexact S2
    isplitl [R0]; · iexact R0
    isplitl [R1]; · iexact R1
    iexact R2
  isplitl [Hkv]; · iexact Hkv
  isplitl [Hsc]; · iexact Hsc
  isplitl [Hp]; · iexact Hp
  iapply (slots_join c (m ((c : Thread nD τ).loc cc0_scratch4))) $$ Hsl

/-- The pipeline's own waits come before everything the device owes. -/
theorem waits (c : Dev nD) : (levAts L lv : sProp 𝕄) ⊢ Pipeline.cellsWaits cfgs (dats m) () 0 c :=
  Pipeline.cellsWaits_intro cfgs (dats m) () 0 c fun w s t =>
    mayWait_low c _ (by
      have h : ∀ q : Fin 14, q.val < 4 → lv ((0 : Dev nD), .dma q) () = 0 := by decide
      fin_cases w <;> fin_cases s <;> exact h _ (by decide)) _ (by
      rcases t with ⟨_ | _, ht⟩
      · exact Or.inl rfl
      · exact Or.inr (Or.inr rfl))

/-! ## The run -/

/-- The memory the program starts from. -/
abbrev s₀ : MemSt nD τ sig (Elt F) := ⟨m, fun _ => 0, ρ⟩

/-- What array `w` of device `c` holds after the run. -/
def finalA (c : Dev nD) (w : Fin cfg0.W) : Buf (Elt F) ((cfg0.win w).arr.view.loc (c : Thread nD τ)) := (dats m 0 c).arrAt w cfg0.N

set_option maxRecDepth 20000 in
/-- The program runs from any memory, for any float values. -/
theorem run_arrays : θ_run defs (onTc (τ := τ) (main (F := F))) (s₀ m ρ) (fun r => ((∀ c : Dev nD,
      (∀ w : Fin cfg0.W, r.2.mem ((cfg0.win w).arr.view.loc (c : Thread nD τ)) = finalA m c w)
      ∧ r.2.mem ((c : Thread nD τ).loc main_arg1) = kOf m c ∧ r.2.mem ((c : Thread nD τ).loc main_arg2) = vOf m c)) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ Variants.none m ρ main
    (hmain := fun _ => rfl)
    (hbody := body_obligation m) (hne := block_pos0) (harr := arr_whole0) (hstage := stage_whole0) (hshare := share_eq m)
    (hdistinct := winFacts0.arr_inj)
    (O₀ := owedAll) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_talk m) $$ HX with HG
      imodintro
      isplitl [HP] <;> iassumption)
    (hglob := glob m)
    (hA := fun _ _ => rfl) (hpf := fun _ k => k.elim0)
    (X := start m) (Y := fun c => iprop(unscopedSems0 c ∗ ownKV m c)) (Z := fun _ => iprop(emp))
    (hX := start_intro m ρ) (hin := phi0_intro m) (hout := phi1_exit m)
    (QY := fun c s => (s.mem ((c : Thread nD τ).loc main_arg1) = kOf m c ∧ s.mem ((c : Thread nD τ).loc main_arg2) = vOf m c)
      ∧ ∀ sm : SemLoc sig, sm.isScoped .tc = false → s.sem ((c.tc : Thread nD τ), sm) = 0)
    (hY := fun c s' => by
      unfold ownKV
      iintro ⟨⟨Hu, HK, HV⟩, -, HSI⟩
      icombine HSI HK gives %hK
      icombine HSI HV gives %hV
      imod (Pipeline.unscopedSems0_read (X := unscopedSems0 c) (c := c) fupd_intro s') $$ [Hu HSI] with ⟨%hs, HSI⟩
      · isplitl [Hu] <;> iassumption
      imodintro
      isplitr
      · ipureintro
        exact ⟨⟨Buf.eq_of_forall_mem_univ hK, Buf.eq_of_forall_mem_univ hV⟩, hs⟩
      iexact HSI)
    (hQ := fun _ h hs => ⟨fun c => ⟨(h c).1, (h c).2.2.1⟩, sem_eq_zero hs fun c => (h c).2.2.2⟩)

end Cert.Talk
end
-- ==== Proof.Run.lean ====
/-
# The run, in closed form

What the program leaves, in terms of the memory it starts from: on each device the result is the combination of four partial
results, each a function of one device's arguments; the arguments are what they were.
-/
module

public import proofs.«01_k».proof.Proof.Launch

@[expose] public section

noncomputable section

namespace Cert.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Cfg Window BodyObligation)

variable (m : (ℓ : Loc nD τ sig) → Buf (Elt F) ℓ) (ρ : Dev nD → PrngReg)

omit [FloatOps F] in
/-- The one block of the queries, the page table and the lengths is the whole array. -/
theorem qOf_eq (c : Dev nD) : qOf m c = m ((c : Thread nD τ).loc main_arg0) := by
  unfold qOf iblk
  exact Memref.read_access_unit_zero (Elt F) main_arg0 (off := fun a => (win0_0.index t0_0) a * main_arg0.ty.shape.size a) (funext fun a => by fin_cases a <;> decide) (fun a => by fin_cases a <;> decide) _
omit [FloatOps F] in
/-- The page table that the body finds is the argument. -/
theorem btOf_eq (c : Dev nD) : btOf m c = m ((c : Thread nD τ).loc main_arg3) := by
  unfold btOf iblk
  exact Memref.read_access_unit_zero (Elt F) main_arg3 (off := fun a => (win0_1.index t0_0) a * main_arg3.ty.shape.size a) (funext fun a => by fin_cases a <;> decide) (fun a => by fin_cases a <;> decide) _
omit [FloatOps F] in
/-- The lengths that the body finds are the argument. -/
theorem lensOf_eq (c : Dev nD) : lensOf m c = m ((c : Thread nD τ).loc main_arg4) := by
  unfold lensOf iblk
  exact Memref.read_access_unit_zero (Elt F) main_arg4 (off := fun a => (win0_2.index t0_0) a * main_arg4.ty.shape.size a) (funext fun a => by fin_cases a <;> decide) (fun a => by fin_cases a <;> decide) _

/-- The result array ends holding what the body stored. -/
theorem result_eq (c : Dev nD) : finalA m c (3 : Fin 4) = resultOf m c := by
  have h : (win0_3.blk t0_0).view.read (Elt F) (finalA m c (3 : Fin 4)) = resultOf m c := by
    unfold finalA
    rw [show cfg0.N = (t0_0 : Fin cfg0.N).val + 1 from rfl, (dats m 0 c).arrAt_succ (3 : Fin 4) t0_0]
    rw [show (cfg0.win (3 : Fin 4)).flush t0_0 = true from by decide, if_pos rfl]
    exact View.read_write_univ _ _
  exact (Memref.read_access_unit_zero (Elt F) main_v1 (off := fun a => (win0_3.index t0_0) a * main_v1.ty.shape.size a) (funext fun a => by fin_cases a <;> decide) (fun a => by fin_cases a <;> decide) _).symm.trans h

/-- What each device's arguments hold after the run: what they held before it. -/
abbrev Kept (s : MemSt nD τ sig (Elt F)) : Prop := ∀ c : Dev nD,
  s.mem ((c : Thread nD τ).loc main_arg0) = m ((c : Thread nD τ).loc main_arg0)
  ∧ s.mem ((c : Thread nD τ).loc main_arg1) = m ((c : Thread nD τ).loc main_arg1)
  ∧ s.mem ((c : Thread nD τ).loc main_arg2) = m ((c : Thread nD τ).loc main_arg2)
  ∧ s.mem ((c : Thread nD τ).loc main_arg3) = m ((c : Thread nD τ).loc main_arg3)
  ∧ s.mem ((c : Thread nD τ).loc main_arg4) = m ((c : Thread nD τ).loc main_arg4)

/-- The program runs: the results are the combined partial results, the arguments are unchanged, all semaphores are at zero. -/
theorem run_main : θ_run defs (onTc (τ := τ) (main (F := F))) (s₀ m ρ) (fun r =>
      (∀ c : Dev nD, r.2.mem ((c : Thread nD τ).loc main_v1) = resultOf m c) ∧ Kept m r.2 ∧ r.2.sem = fun _ => 0) :=
  (θ_run defs _ _).mono (fun r h =>
    ⟨fun c => ((h.1 c).1 (3 : Fin 4)).trans (result_eq m c),
      fun c => ⟨((h.1 c).1 (0 : Fin 4)).trans ((dats m 0 c).arrAt_in (0 : Fin 4) rfl _), (h.1 c).2.1, (h.1 c).2.2,
        ((h.1 c).1 (1 : Fin 4)).trans ((dats m 0 c).arrAt_in (1 : Fin 4) rfl _), ((h.1 c).1 (2 : Fin 4)).trans ((dats m 0 c).arrAt_in (2 : Fin 4) rfl _)⟩,
      h.2⟩) (run_arrays m ρ)

/-- The run with the results dropped: the program terminates, keeps its arguments, and leaves every counter at zero. -/
theorem run_frame : θ_run defs (onTc (τ := τ) (main (F := F))) (s₀ m ρ) (fun r => Kept m r.2 ∧ r.2.sem = fun _ => 0) :=
  (θ_run defs _ _).mono (fun r h => ⟨h.2.1, h.2.2⟩) (run_main m ρ)

end Cert.Talk
end
-- ==== Proof.Blocks.lean ====
/-
# The blocks of the partial result

What the 24 blocks of `partialOf` are, each as the same function of a head: over eight groups of pages the scores of the queries,
their running maximum, the weights, and the sums of the weights and of the weighted values. Two heads share a product with the
values, so that a head's sum is one quarter of it.

Here the operations stay as they are, over any float values.
-/
module

public import proofs.«01_k».proof.Proof.Partial

@[expose] public section

noncomputable section

namespace Cert.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Which part of a buffer belongs to a head or a group of pages -/

/-- The pages of a group lie within the device's pages. -/
theorem group_in_pages : ∀ n : Fin 8, ∀ a, (![64 * n.val, 0, 0, 0] : Fin 4 → ℕ) a + S64x16x8x128.size a ≤ S512x16x8x128.size a := by decide
/-- A head's queries lie within all queries. -/
theorem head_in_queries : ∀ h : Fin 8, S8x8x128.Slices ![0, h.val, 0] S8x1x128 := by decide
/-- A head's columns lie within a group's rows. -/
theorem head_in_group : ∀ h : Fin 8, S1024x1024.Slices ![0, 128 * h.val] S1024x128 := by decide
/-- The scores of a head in a group lie within the array of scores. -/
theorem head_in_scores : ∀ h n : Fin 8, ∀ a, (![0, h.val, 1024 * n.val] : Fin 3 → ℕ) a + S8x1x1024.size a ≤ S8x8x8192.size a := by decide
/-- The counts of a group lie within all counts. -/
theorem group_in_counts : ∀ n : Fin 8, S8x8192.Slices ![0, 1024 * n.val] S8x1024 := by decide
/-- A pair of heads' columns lie within a group's rows. -/
theorem pair_in_group : ∀ g : Fin 4, S1024x1024.Slices ![0, 256 * g.val] S1024x256 := by decide
/-- A head's own square lies within its pair's product. -/
theorem half_in_pair : ∀ e : Fin 2, S16x256.Slices ![8 * e.val, 128 * e.val] S8x128 := by decide

/-- The heads `2 g` and `2 g + 1` of pair `g`, the pair of a head, and which of the two it is. -/
def headOf (g : Fin 4) (e : Fin 2) : Fin 8 := ⟨2 * g.val + e.val, by omega⟩
/-- The pair that a head belongs to. -/
def pairOf (h : Fin 8) : Fin 4 := ⟨h.val / 2, by omega⟩
/-- Which of its pair a head is. -/
def halfOf (h : Fin 8) : Fin 2 := ⟨h.val % 2, by omega⟩

/-- A head is the one found at its place in its pair. -/
theorem headOf_pairOf (h : Fin 8) : headOf (pairOf h) (halfOf h) = h := Fin.ext (by simp only [headOf, pairOf, halfOf]; omega)

/-! ## The steps -/

/-- Group `n` of a device's key pages, as 1024 rows of 8 · 128 numbers. -/
def keyRows (c : Dev nD) (fK : Bf (F := F) c main_arg1) (n : Fin 8) : FVec F S1024x1024 .f32 :=
  shapeCast S1024x1024 (shapeCast S64x16x8x128 (asLoaded (ReadAs.same.apply (View.read (Elt F)
    ((Memref.whole main_arg1).slice (Rect.unit ![64 * n.val, 0, 0, 0] S64x16x8x128.size (group_in_pages n)) (fun _ => rfl)).view fK)))
    shapeCasts_S1x64x16x8x128_S64x16x8x128) shapeCasts_S64x16x8x128_S1024x1024
/-- Group `n` of a device's value pages, as 1024 rows of 8 · 128 numbers. -/
def valueRows (c : Dev nD) (fV : Bf (F := F) c main_arg2) (n : Fin 8) : FVec F S1024x1024 .f32 :=
  shapeCast S1024x1024 (shapeCast S64x16x8x128 (asLoaded (ReadAs.same.apply (View.read (Elt F)
    ((Memref.whole main_arg2).slice (Rect.unit ![64 * n.val, 0, 0, 0] S64x16x8x128.size (group_in_pages n)) (fun _ => rfl)).view fV)))
    shapeCasts_S1x64x16x8x128_S64x16x8x128) shapeCasts_S64x16x8x128_S1024x1024

/-- The queries, scaled. -/
def scaled (c : Dev nD) (fq : Bf (F := F) c cc0_stg0_0) : FVec F S8x8x128 .f32 :=
  mulf (shapeCast S8x8x128 (shapeCast S8x1x8x128 (View.readAt (Elt F) (Memref.whole cc0_stg0_0).view
      (Rect.unit ![0, 0, 0, 0] S8x1x8x128.size inb_S8x1x8x128_S8x1x8x128_0_0_0_0).toLoadRect fq) shapeCasts_S8x1x8x128_S8x1x8x128)
    shapeCasts_S8x1x8x128_S8x8x128) (broadcast S8x8x128 (Scalar.ofBits .f32 0x3DB504F3#32))

/-- The scores of head `h` against group `n`. -/
def scoreBlock (c : Dev nD) (fq : Bf (F := F) c cc0_stg0_0) (fK : Bf (F := F) c main_arg1) (h n : Fin 8) : FVec F S8x1024 .f32 :=
  matmul dot_S8x128_S1024x128_S8x1024_1_1_0_0_n_n none
    (shapeCast S8x128 (extractStridedSlice S8x1x128 ![0, h.val, 0] (scaled c fq) (head_in_queries h)) shapeCasts_S8x1x128_S8x128)
    (extractStridedSlice S1024x128 ![0, 128 * h.val] (keyRows c fK n) (head_in_group h))
    (constant S8x1024 .f32 0x00000000#32)

/-- The maximum of head `h` after one more group. -/
def maxStep (c : Dev nD) (fq : Bf (F := F) c cc0_stg0_0) (fK : Bf (F := F) c main_arg1) (h n : Fin 8) (acc : FVec F S8 .f32) : FVec F S8 .f32 :=
  maximumf acc (multiReduction .maximumf [1] S8 (scoreBlock c fq fK h n) 0xFF800000#32 reduces_S8x1024_S8 (.inl rfl) rfl)
/-- The maximum of head `h` over all groups, rounded and widened again. -/
def maxOf (c : Dev nD) (fq : Bf (F := F) c cc0_stg0_0) (fK : Bf (F := F) c main_arg1) (h : Fin 8) : FVec F S8 .f32 :=
  extf .f32 (truncf .bf16 (maxStep c fq fK h 7 (maxStep c fq fK h 6 (maxStep c fq fK h 5 (maxStep c fq fK h 4 (maxStep c fq fK h 3
    (maxStep c fq fK h 2 (maxStep c fq fK h 1 (maxStep c fq fK h 0 (broadcast S8 (Scalar.ofBits .f32 0xF149F2CA#32))))))))))
    bitsLt_bf16_f32) bitsLt_bf16_f32

/-- How often each token is used by each sequence: the device's pages looked up in the page table. -/
def countsOf (c : Dev nD) (fb : Bf (F := F) c cc0_stg1_0) (fl : Bf (F := F) c cc0_stg2_0) : FVec F S8x8192 .f32 := localRun.sl.v804 c fb fl

/-- The scores of head `h` against group `n`, as the device reads them back. -/
def keptScores (c : Dev nD) (fq : Bf (F := F) c cc0_stg0_0) (fK : Bf (F := F) c main_arg1) (h n : Fin 8) : Vec F S8x1x1024 .f32 :=
  (Memref.whole cc0_scratch2).view.readCov (localRun.sl.Hs_64 c fq fK)
    (Rect.unit (s := S8x8x8192) ![0, h.val, 1024 * n.val] S8x1x1024.size (head_in_scores h n)).toLoadRect

/-- The weights of head `h` in group `n`. -/
def weightBlock (c : Dev nD) (fq : Bf (F := F) c cc0_stg0_0) (fb : Bf (F := F) c cc0_stg1_0) (fl : Bf (F := F) c cc0_stg2_0) (fK : Bf (F := F) c main_arg1) (h n : Fin 8) : FVec F S8x1024 .f32 :=
  mulf (extractStridedSlice S8x1024 ![0, 1024 * n.val] (countsOf c fb fl) (group_in_counts n))
    (exp (subf (shapeCast S8x1024 (keptScores c fq fK h n) shapeCasts_S8x1x1024_S8x1024)
      (broadcastTo S8x1024 (shapeCast S8x1 (maxOf c fq fK h) shapeCasts_S8_S8x1) broadcasts_S8x1_S8x1024)))

/-- The sum of the weights of head `h` after one more group. -/
def sumStep (c : Dev nD) (fq : Bf (F := F) c cc0_stg0_0) (fb : Bf (F := F) c cc0_stg1_0) (fl : Bf (F := F) c cc0_stg2_0) (fK : Bf (F := F) c main_arg1) (h n : Fin 8) (acc : FVec F S8 .f32) : FVec F S8 .f32 :=
  addf acc (multiReduction .add [1] S8 (weightBlock c fq fb fl fK h n) 0x00000000#32 reduces_S8x1024_S8 (.inl rfl) rfl)
/-- The sum of the weights of head `h` over all groups. -/
def sumOf (c : Dev nD) (fq : Bf (F := F) c cc0_stg0_0) (fb : Bf (F := F) c cc0_stg1_0) (fl : Bf (F := F) c cc0_stg2_0) (fK : Bf (F := F) c main_arg1) (h : Fin 8) : FVec F S8 .f32 :=
  sumStep c fq fb fl fK h 7 (sumStep c fq fb fl fK h 6 (sumStep c fq fb fl fK h 5 (sumStep c fq fb fl fK h 4 (sumStep c fq fb fl fK h 3
    (sumStep c fq fb fl fK h 2 (sumStep c fq fb fl fK h 1 (sumStep c fq fb fl fK h 0 (broadcast S8 (Scalar.ofBits .f32 0x00000000#32)))))))))

/-- The weights of the two heads of pair `g` in group `n`, one above the other, against the pair's values. -/
def pairBlock (c : Dev nD) (fq : Bf (F := F) c cc0_stg0_0) (fb : Bf (F := F) c cc0_stg1_0) (fl : Bf (F := F) c cc0_stg2_0) (fK : Bf (F := F) c main_arg1) (fV : Bf (F := F) c main_arg2) (g : Fin 4) (n : Fin 8) : FVec F S16x256 .f32 :=
  matmul dot_S16x1024_S1024x256_S16x256_1_0_0_1_n_n none
    (concatenate S16x1024 0 [⟨S8x1024, weightBlock c fq fb fl fK (headOf g 0) n⟩, ⟨S8x1024, weightBlock c fq fb fl fK (headOf g 1) n⟩] concatenates_S8x1024_S8x1024_S16x1024_d0)
    (extractStridedSlice S1024x256 ![0, 256 * g.val] (valueRows c fV n) (pair_in_group g))
    (constant S16x256 .f32 0x00000000#32)

/-- The weighted values of head `h` after one more group. -/
def valueStep (c : Dev nD) (fq : Bf (F := F) c cc0_stg0_0) (fb : Bf (F := F) c cc0_stg1_0) (fl : Bf (F := F) c cc0_stg2_0) (fK : Bf (F := F) c main_arg1) (fV : Bf (F := F) c main_arg2) (h n : Fin 8) (acc : FVec F S8x128 .f32) : FVec F S8x128 .f32 :=
  addf acc (extractStridedSlice S8x128 ![8 * (halfOf h).val, 128 * (halfOf h).val] (pairBlock c fq fb fl fK fV (pairOf h) n) (half_in_pair (halfOf h)))
/-- The weighted values of head `h` over all groups. -/
def valueOf (c : Dev nD) (fq : Bf (F := F) c cc0_stg0_0) (fb : Bf (F := F) c cc0_stg1_0) (fl : Bf (F := F) c cc0_stg2_0) (fK : Bf (F := F) c main_arg1) (fV : Bf (F := F) c main_arg2) (h : Fin 8) : FVec F S8x128 .f32 :=
  valueStep c fq fb fl fK fV h 7 (valueStep c fq fb fl fK fV h 6 (valueStep c fq fb fl fK fV h 5 (valueStep c fq fb fl fK fV h 4 (valueStep c fq fb fl fK fV h 3
    (valueStep c fq fb fl fK fV h 2 (valueStep c fq fb fl fK fV h 1 (valueStep c fq fb fl fK fV h 0 (broadcast S8x128 (Scalar.ofBits .f32 0x00000000#32)))))))))

/-- A block is packed as it is, a column widened to 128 equal numbers first. -/
def packBlock (x : FVec F S8x128 .f32) : Block F := shapeCast S1x8x1x128 (truncf .bf16 x bitsLt_bf16_f32) shapeCasts_S8x128_S1x8x1x128
/-- One number a sequence, repeated over the lanes and packed. -/
def packColumn (x : FVec F S8 .f32) : Block F :=
  packBlock (broadcastTo S8x128 (shapeCast S8x1 (shapeCast S8x1 x shapeCasts_S8_S8x1) shapeCasts_S8x1_S8x1) broadcasts_S8x1_S8x128)

/-! ## The blocks -/

/-- The packed rows of a head's maximum. -/
theorem mRows_eq (c : Dev nD) (fq : Bf (F := F) c cc0_stg0_0) (fb : Bf (F := F) c cc0_stg1_0) (fl : Bf (F := F) c cc0_stg2_0) (fK : Bf (F := F) c main_arg1) (fV : Bf (F := F) c main_arg2) (h : Fin 8) : mRows c fq fb fl fK fV h = packColumn (maxOf c fq fK h) := by
  fin_cases h <;> rfl
/-- The packed rows of a head's sum of weights. -/
theorem lRows_eq (c : Dev nD) (fq : Bf (F := F) c cc0_stg0_0) (fb : Bf (F := F) c cc0_stg1_0) (fl : Bf (F := F) c cc0_stg2_0) (fK : Bf (F := F) c main_arg1) (fV : Bf (F := F) c main_arg2) (h : Fin 8) : lRows c fq fb fl fK fV h = packColumn (sumOf c fq fb fl fK h) := by
  fin_cases h <;> rfl
/-- The packed rows of a head's weighted values. -/
theorem oRows_eq (c : Dev nD) (fq : Bf (F := F) c cc0_stg0_0) (fb : Bf (F := F) c cc0_stg1_0) (fl : Bf (F := F) c cc0_stg2_0) (fK : Bf (F := F) c main_arg1) (fV : Bf (F := F) c main_arg2) (h : Fin 8) : oRows c fq fb fl fK fV h = packBlock (valueOf c fq fb fl fK fV h) := by
  fin_cases h <;> rfl

end Cert.Talk
end
-- ==== Proof.Kept.lean ====
/-
# The scores a device reads back

A device stores the scores of each head against each group of pages in one buffer and reads them back when the values arrive. The
64 stores are to disjoint places, so that each load finds what was stored for its head and group.
-/
module

public import proofs.«01_k».proof.Proof.Blocks
public import Idealize.ShloMosaic.Lib.Pipeline.ValueKit.Tiles

@[expose] public section

noncomputable section

namespace Cert.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The head and the group of the store that is `k`-th from the last. -/
def headAt (k : Fin 64) : Fin 8 := ⟨7 - k.val % 8, by omega⟩
/-- The group that the `k`-th of the stores, counted from the last, belongs to. -/
def groupAt (k : Fin 64) : Fin 8 := ⟨7 - k.val / 8, by omega⟩

/-- The store of head `h` in group `n`. -/
def storeOf (c : Dev nD) (fq : Bf (F := F) c cc0_stg0_0) (fK : Bf (F := F) c main_arg1) (h n : Fin 8) : View.Piece (Elt F) S8x8x8192 .f32 :=
  ⟨Rect.unit (s := S8x8x8192) ![0, h.val, 1024 * n.val] S8x1x1024.size (head_in_scores h n),
    shapeCast S8x1x1024 (scoreBlock c fq fK h n) shapeCasts_S8x1024_S8x1x1024⟩

/-- The 64 stores, the last one first: head by head inside group by group. -/
theorem stores_eq (c : Dev nD) (fq : Bf (F := F) c cc0_stg0_0) (fK : Bf (F := F) c main_arg1) :
    localRun.sl.Hs_64 c fq fK = List.ofFn fun k : Fin 64 => storeOf c fq fK (headAt k) (groupAt k) := by
  rfl

/-- The stores are to disjoint places. -/
theorem stores_disjoint (k k' : Fin 64) (hk : k ≠ k') :
    Disjoint (Rect.unit (s := S8x8x8192) ![0, (headAt k).val, 1024 * (groupAt k).val] S8x1x1024.size (head_in_scores (headAt k) (groupAt k))).set
      (Rect.unit (s := S8x8x8192) ![0, (headAt k').val, 1024 * (groupAt k').val] S8x1x1024.size (head_in_scores (headAt k') (groupAt k'))).set := by
  refine Finset.disjoint_left.mpr fun y hy hy' => hk ?_
  have a1 := Rect.mem_set_unit.mp hy 1
  have a2 := Rect.mem_set_unit.mp hy 2
  have b1 := Rect.mem_set_unit.mp hy' 1
  have b2 := Rect.mem_set_unit.mp hy' 2
  change 7 - k.val % 8 ≤ _ ∧ _ < 7 - k.val % 8 + 1 at a1
  change 7 - k'.val % 8 ≤ _ ∧ _ < 7 - k'.val % 8 + 1 at b1
  change 1024 * (7 - k.val / 8) ≤ _ ∧ _ < 1024 * (7 - k.val / 8) + 1024 at a2
  change 1024 * (7 - k'.val / 8) ≤ _ ∧ _ < 1024 * (7 - k'.val / 8) + 1024 at b2
  exact Fin.ext (by omega)

/-- Of stores to disjoint places each leaves what it stored. -/
theorem canon_family {N : ℕ} (p : Fin N → View.Piece (Elt F) S8x8x8192 .f32) (hd : ∀ k k', k ≠ k' → Disjoint (p k).1.set (p k').1.set) (k : Fin N)
    (j : (p k).1.shape.Idx) : View.canon (List.ofFn p) ((p k).1.emb j) = (p k).2 j :=
  View.canon_ofFn_emb_of_disjoint (fun k => (p k).1) (fun k => (p k).2) hd k j

/-- What is read back of head `h` in group `n` is what was stored for them. -/
theorem keptScores_eq (c : Dev nD) (fq : Bf (F := F) c cc0_stg0_0) (fK : Bf (F := F) c main_arg1) (h n : Fin 8) :
    keptScores c fq fK h n = shapeCast S8x1x1024 (scoreBlock c fq fK h n) shapeCasts_S8x1024_S8x1x1024 := by
  obtain ⟨k, hh, hn⟩ : ∃ k : Fin 64, headAt k = h ∧ groupAt k = n :=
    ⟨⟨8 * (7 - n.val) + (7 - h.val), by omega⟩, Fin.ext (by simp only [headAt]; omega), Fin.ext (by simp only [groupAt]; omega)⟩
  rw [← hh, ← hn]
  have e : keptScores c fq fK (headAt k) (groupAt k) = (Memref.whole cc0_scratch2).view.readCov (List.ofFn fun k : Fin 64 => storeOf c fq fK (headAt k) (groupAt k))
      (Rect.unit (s := S8x8x8192) ![0, (headAt k).val, 1024 * (groupAt k).val] S8x1x1024.size (head_in_scores (headAt k) (groupAt k))).toLoadRect := by
    unfold keptScores
    rw [stores_eq]
  refine e.trans ((View.readCov_eq_canon' _ _ _).trans (funext fun j => ?_))
  exact canon_family (fun k : Fin 64 => storeOf c fq fK (headAt k) (groupAt k)) stores_disjoint k j

end Cert.Talk
end
-- ==== Proof.Values.lean ====
/-
# The partial result of a device in numbers

Over the extended reals: the scores of a query against the device's tokens, how often a sequence uses each page, and the three sums
that the device packs, as sums over its 512 pages of 16 tokens.
-/
module

public import proofs.«01_k».proof.Proof.Kept
public import Idealize.ShloMosaic.Lib.Pointwise

@[expose] public section

noncomputable section

namespace Cert.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

set_option maxRecDepth 16384

variable (c : Dev nD) (q : FVec Ideal S8x1x8x128 .f32) (bt : IVec S8x512 32) (len : IVec S8 32) (K V : FVec Ideal S512x16x8x128 .f32)

/-- The factor of the scores. -/
def factor : EReal := Ideal.ofBits .f32 0x3DB504F3#32

/-- The score of sequence `b` and head `h` against token `s` of page `p`. -/
def score (b h : Fin 8) (p : Fin 512) (s : Fin 16) : EReal :=
  ∑ d : Fin 128, q (ix4 b (0 : Fin 1) h d) * factor * K (ix4 p s h d)

/-- Entry `j` of the page table of sequence `b` is in use and names page `p` of the device at place `z`. -/
def Names (z : ℕ) (b : Fin 8) (p : Fin 512) (j : Fin 512) : Prop :=
  bt (ix2 b j) = BitVec.ofNat 32 (p.val + 512 * z) ∧ (j.val : ℤ) < (len (ix1 b)).toInt

instance (z : ℕ) (b : Fin 8) (p j : Fin 512) : Decidable (Names bt len z b p j) := by unfold Names; infer_instance

/-- How often sequence `b` uses page `p` of the device at place `z`. -/
def count (z : ℕ) (b : Fin 8) (p : Fin 512) : EReal := ∑ j : Fin 512, if Names bt len z b p j then 1 else 0

/-! ## One group of pages -/

/-- Row `t` of group `n` holds token `t % 16` of page `64 n + t / 16`, eight heads side by side. -/
theorem rows_apply {X : FVec Ideal S512x16x8x128 .f32} {n : Fin 8} {t col : Fin 1024} {off : Fin 4 → ℕ}
    (hoff : off = ![64 * n.val, 0, 0, 0]) {i : S512x16x8x128.Idx}
    (hi : ∀ a, (i a).val = off a + 1 * ((ix4 (⟨t.val / 16, by omega⟩ : Fin 64) (⟨t.val % 16, by omega⟩ : Fin 16) (⟨col.val / 128, by omega⟩ : Fin 8) (⟨col.val % 128, by omega⟩ : Fin 128) : S64x16x8x128.Idx) a).val) :
    X i = X (ix4 (⟨64 * n.val + t.val / 16, by omega⟩ : Fin 512) (⟨t.val % 16, by omega⟩ : Fin 16) (⟨col.val / 128, by omega⟩ : Fin 8) (⟨col.val % 128, by omega⟩ : Fin 128)) := by
  subst hoff
  refine congrArg X (funext fun a => Fin.ext ((hi a).trans ?_))
  fin_cases a
  · show 64 * n.val + 1 * (t.val / 16) = 64 * n.val + t.val / 16
    omega
  · show 0 + 1 * (t.val % 16) = t.val % 16
    omega
  · show 0 + 1 * (col.val / 128) = col.val / 128
    omega
  · show 0 + 1 * (col.val % 128) = col.val % 128
    omega

/-- An entry of the keys of a group, laid out in rows. -/
theorem keyRows_apply (n : Fin 8) (t col : Fin 1024) :
    keyRows (F := Ideal) c K n (ix2 t col)
      = K (ix4 (⟨64 * n.val + t.val / 16, by omega⟩ : Fin 512) (⟨t.val % 16, by omega⟩ : Fin 16) (⟨col.val / 128, by omega⟩ : Fin 8) (⟨col.val % 128, by omega⟩ : Fin 128)) := by
  unfold keyRows
  pointwise
  exact rows_apply rfl fun a => by fin_cases a <;> rfl

/-- An entry of the values of a group, laid out in rows. -/
theorem valueRows_apply (n : Fin 8) (t col : Fin 1024) :
    valueRows (F := Ideal) c V n (ix2 t col)
      = V (ix4 (⟨64 * n.val + t.val / 16, by omega⟩ : Fin 512) (⟨t.val % 16, by omega⟩ : Fin 16) (⟨col.val / 128, by omega⟩ : Fin 8) (⟨col.val % 128, by omega⟩ : Fin 128)) := by
  unfold valueRows
  pointwise
  exact rows_apply rfl fun a => by fin_cases a <;> rfl

/-- A query, scaled. -/
theorem scaled_apply (b h : Fin 8) (d : Fin 128) :
    scaled (F := Ideal) c q (ix3 b h d) = q (ix4 b (0 : Fin 1) h d) * factor := by
  unfold scaled factor
  pointwise
  refine congrArg (fun i => q i * Ideal.ofBits .f32 0x3DB504F3#32) (funext fun a => Fin.ext ?_)
  fin_cases a <;> exact (Nat.zero_add _).trans (Nat.one_mul _)

/-- The score of a token of a group. -/
theorem scoreBlock_apply (h n b : Fin 8) (t : Fin 1024) :
    scoreBlock (F := Ideal) c q K h n (ix2 b t) = score q K b h ⟨64 * n.val + t.val / 16, by omega⟩ ⟨t.val % 16, by omega⟩ := by
  unfold scoreBlock score
  pointwise
  refine Finset.sum_congr rfl fun d _ => ?_
  rw [scaled_apply, keyRows_apply]
  congr 2
  refine congrArg₂ (ix4 _ _) (Fin.ext ?_) (Fin.ext ?_)
  · show (128 * h.val + d.val) / 128 = h.val
    omega
  · show (128 * h.val + d.val) % 128 = d.val
    omega

/-- The first page of a device, as its program computes it. -/
theorem group_eq : ∀ c : Dev nD, localRun.sl.v9 c = BitVec.ofNat 32 (512 * (c.val % 4)) := by decide

/-- The page table, as it is loaded. -/
theorem table_eq : localRun.sl.v781 (F := Ideal) c bt = k0_pay239 (F := Ideal) bt :=
  congrArg (k0_pay239 (F := Ideal)) (funext fun i => congrArg bt (funext fun a => Fin.ext (by fin_cases a <;> exact (Nat.zero_add _).trans (Nat.one_mul _))))

/-- The lengths, as they are loaded. -/
theorem lengths_eq : localRun.sl.v788 (F := Ideal) c len = k0_pay240 (F := Ideal) len :=
  congrArg (k0_pay240 (F := Ideal)) (funext fun i => congrArg len (funext fun a => Fin.ext (by fin_cases a; exact (Nat.zero_add _).trans (Nat.one_mul _))))

/-- A word below half the range is its own value, read signed. -/
theorem toInt_ofNat_small (n : ℕ) (hn : n < 2 ^ 31) : (BitVec.ofNat 32 n).toInt = n := by
  rw [BitVec.toInt_eq_toNat_of_lt] <;> rw [BitVec.toNat_ofNat] <;> omega

/-- So the number of a page within its part is the same number as a signed word. -/
theorem toInt_small (j : Fin 512) : (BitVec.ofNat 32 j.val).toInt = (j.val : ℤ) := toInt_ofNat_small j.val (by omega)

/-- The count of a token is that of its page. -/
theorem countsOf_apply (b : Fin 8) (u : Fin 8192) :
    countsOf (F := Ideal) c bt len (ix2 b u) = count bt len (c.val % 4) b ⟨u.val / 16, by omega⟩ := by
  unfold countsOf localRun.sl.v804 localRun.sl.v791 count
  rw [group_eq, table_eq, lengths_eq]
  pointwise [k0_pay242, k0_pay239, k0_pay240, k0_pay241]
  refine Finset.sum_congr rfl fun j _ => ?_
  simp only [Scalar.select, IntOp.andi, IntOp.cmpi, IntOp.addi, BitVec.slt, toInt_small, ← BitVec.ofNat_add]
  refine if_congr ?_ rfl rfl
  unfold Names
  generalize BitVec.ofNat 32 (u.val / 16 + 512 * (c.val % 4)) = w
  by_cases h1 : bt (ix2 b j) = w <;> by_cases h2 : (j.val : ℤ) < (len (ix1 b)).toInt <;>
    simp [beq_eq_decide, h1, h2]

/-- The weight of a token of a group. -/
theorem weightBlock_apply (h n b : Fin 8) (t : Fin 1024) :
    weightBlock (F := Ideal) c q bt len K h n (ix2 b t)
      = count bt len (c.val % 4) b ⟨64 * n.val + t.val / 16, by omega⟩
        * Ideal.exp (score q K b h ⟨64 * n.val + t.val / 16, by omega⟩ ⟨t.val % 16, by omega⟩ - maxOf (F := Ideal) c q K h (ix1 b)) := by
  unfold weightBlock
  rw [keptScores_eq]
  pointwise
  rw [scoreBlock_apply, countsOf_apply]
  congr 2
  refine Fin.ext ?_
  show (1024 * n.val + t.val) / 16 = 64 * n.val + t.val / 16
  omega

/-- A head's own square of its pair's product: the weighted values of that head. -/
theorem pairBlock_apply (g : Fin 4) (e : Fin 2) (n b : Fin 8) (d : Fin 128) :
    pairBlock (F := Ideal) c q bt len K V g n (ix2 (⟨8 * e.val + b.val, by omega⟩ : Fin 16) (⟨128 * e.val + d.val, by omega⟩ : Fin 256))
      = ∑ t : Fin 1024, weightBlock (F := Ideal) c q bt len K (headOf g e) n (ix2 b t)
          * V (ix4 (⟨64 * n.val + t.val / 16, by omega⟩ : Fin 512) (⟨t.val % 16, by omega⟩ : Fin 16) (headOf g e) d) := by
  unfold pairBlock
  pointwise
  refine Finset.sum_congr rfl fun t _ => ?_
  rw [valueRows_apply]
  refine congrArg₂ (· * ·) ?_ (congrArg V (congrArg₂ (ix4 _ _) (Fin.ext ?_) (Fin.ext ?_)))
  · fin_cases e
    · rw [dif_pos (by show 8 * 0 + b.val < 8; omega)]
      exact congrArg (fun r => weightBlock (F := Ideal) c q bt len K (headOf g 0) n (ix2 r t)) (Fin.ext (by show 8 * 0 + b.val = b.val; omega))
    · rw [dif_neg (by show ¬ 8 * 1 + b.val < 8; omega)]
      exact congrArg (fun r => weightBlock (F := Ideal) c q bt len K (headOf g 1) n (ix2 r t)) (Fin.ext (by show 8 * 1 + b.val - 8 = b.val; omega))
  · show (256 * g.val + (128 * e.val + d.val)) / 128 = 2 * g.val + e.val
    omega
  · show (256 * g.val + (128 * e.val + d.val)) % 128 = d.val
    omega

/-! ## All groups -/

/-- A sum over eight groups of 1024 tokens is a sum over 512 pages of 16. -/
theorem sum_groups (f : Fin 512 → Fin 16 → EReal) :
    ∑ n : Fin 8, ∑ t : Fin 1024, f ⟨64 * n.val + t.val / 16, by omega⟩ ⟨t.val % 16, by omega⟩ = ∑ p : Fin 512, ∑ s : Fin 16, f p s := by
  rw [← Fintype.sum_prod_type', ← Fintype.sum_prod_type']
  refine Fintype.sum_bijective (fun x : Fin 8 × Fin 1024 => ((⟨64 * x.1.val + x.2.val / 16, by omega⟩, ⟨x.2.val % 16, by omega⟩) : Fin 512 × Fin 16)) ?_ _ _ fun _ => rfl
  rw [Function.bijective_iff_has_inverse]
  refine ⟨fun y => (⟨y.1.val / 64, by omega⟩, ⟨(y.1.val % 64) * 16 + y.2.val, by omega⟩), fun x => Prod.ext (Fin.ext ?_) (Fin.ext ?_), fun y => Prod.ext (Fin.ext ?_) (Fin.ext ?_)⟩
  · show (64 * x.1.val + x.2.val / 16) / 64 = x.1.val
    omega
  · show (64 * x.1.val + x.2.val / 16) % 64 * 16 + x.2.val % 16 = x.2.val
    omega
  · show 64 * (y.1.val / 64) + (y.1.val % 64 * 16 + y.2.val) / 16 = y.1.val
    omega
  · show (y.1.val % 64 * 16 + y.2.val) % 16 = y.2.val
    omega

/-- The sum of weights after a group. -/
theorem sumStep_apply (h n b : Fin 8) (acc : FVec Ideal S8 .f32) :
    sumStep (F := Ideal) c q bt len K h n acc (ix1 b)
      = acc (ix1 b) + ∑ t : Fin 1024, weightBlock (F := Ideal) c q bt len K h n (ix2 b t) := by
  unfold sumStep
  pointwise

/-- The weighted values after a group. -/
theorem valueStep_apply (h n b : Fin 8) (d : Fin 128) (acc : FVec Ideal S8x128 .f32) :
    valueStep (F := Ideal) c q bt len K V h n acc (ix2 b d)
      = acc (ix2 b d) + ∑ t : Fin 1024, weightBlock (F := Ideal) c q bt len K h n (ix2 b t)
          * V (ix4 (⟨64 * n.val + t.val / 16, by omega⟩ : Fin 512) (⟨t.val % 16, by omega⟩ : Fin 16) h d) := by
  unfold valueStep
  pointwise
  rw [pairBlock_apply, headOf_pairOf]

/-- A head's sum of weights, over all tokens of the device's pages. -/
theorem sumOf_apply (h b : Fin 8) :
    sumOf (F := Ideal) c q bt len K h (ix1 b)
      = ∑ p : Fin 512, ∑ s : Fin 16, count bt len (c.val % 4) b p * Ideal.exp (score q K b h p s - maxOf (F := Ideal) c q K h (ix1 b)) := by
  rw [← sum_groups, Fin.sum_univ_eight]
  unfold sumOf
  simp only [sumStep_apply, weightBlock_apply]
  rw [show broadcast S8 (Scalar.ofBits (F := Ideal) .f32 0x00000000#32) (ix1 b) = 0 from Ideal.ofBits_zero_f32, zero_add]

/-- A head's weighted values, over all tokens of the device's pages. -/
theorem valueOf_apply (h b : Fin 8) (d : Fin 128) :
    valueOf (F := Ideal) c q bt len K V h (ix2 b d)
      = ∑ p : Fin 512, ∑ s : Fin 16, count bt len (c.val % 4) b p * Ideal.exp (score q K b h p s - maxOf (F := Ideal) c q K h (ix1 b)) * V (ix4 p s h d) := by
  rw [← sum_groups, Fin.sum_univ_eight]
  unfold valueOf
  simp only [valueStep_apply, weightBlock_apply]
  rw [show broadcast S8x128 (Scalar.ofBits (F := Ideal) .f32 0x00000000#32) (ix2 b d) = 0 from Ideal.ofBits_zero_f32, zero_add]

/-! ## The maximum -/

/-- The maximum after a group is the greater of the former one and the greatest score of the group. -/
theorem maxStep_apply (h n b : Fin 8) (acc : FVec Ideal S8 .f32) :
    maxStep (F := Ideal) c q K h n acc (ix1 b) = max (acc (ix1 b)) (Finset.univ.fold max (Ideal.ofBits .f32 0xFF800000#32) fun t : Fin 1024 => scoreBlock (F := Ideal) c q K h n (ix2 b t)) := by
  unfold maxStep
  pointwise

/-- The word of minus infinity stands for it. -/
theorem minusInfinity : Ideal.ofBits .f32 0xFF800000#32 = ⊥ := by
  simp [Ideal.ofBits, Ideal.ieee]

/-- A word whose exponent is not the greatest stands for a real number. -/
theorem word_real (w : BitVec 32) (hw : (w.extractLsb' 23 8).toNat ≠ 255) : Ideal.ofBits .f32 w ≠ ⊥ ∧ Ideal.ofBits .f32 w ≠ ⊤ := by
  show Ideal.ieee 8 23 w ≠ ⊥ ∧ Ideal.ieee 8 23 w ≠ ⊤
  unfold Ideal.ieee
  dsimp only
  rw [if_neg (by exact hw)]
  split_ifs
  all_goals exact ⟨EReal.coe_ne_bot _, EReal.coe_ne_top _⟩

/-- The maximum starts from a real number. -/
theorem start_real : Ideal.ofBits .f32 0xF149F2CA#32 ≠ ⊥ ∧ Ideal.ofBits .f32 0xF149F2CA#32 ≠ ⊤ := word_real _ (by decide)

/-- The scale is a real number. -/
theorem factor_real : factor ≠ ⊥ ∧ factor ≠ ⊤ := word_real _ (by decide)

/-- The maximum after a group is a real number when it was one before and no score is plus infinity. -/
theorem maxStep_real (h n b : Fin 8) (acc : FVec Ideal S8 .f32) (hs : ∀ p s, score q K b h p s ≠ ⊤) (ha : acc (ix1 b) ≠ ⊥ ∧ acc (ix1 b) ≠ ⊤) :
    maxStep (F := Ideal) c q K h n acc (ix1 b) ≠ ⊥ ∧ maxStep (F := Ideal) c q K h n acc (ix1 b) ≠ ⊤ := by
  rw [maxStep_apply, minusInfinity]
  refine ⟨((bot_lt_iff_ne_bot.mpr ha.1).trans_le (le_max_left _ _)).ne', (max_lt (lt_top_iff_ne_top.mpr ha.2) ?_).ne⟩
  refine (Finset.fold_max_lt _).mpr ⟨bot_lt_top, fun t _ => ?_⟩
  rw [scoreBlock_apply]
  exact lt_top_iff_ne_top.mpr (hs _ _)

/-- The maximum of real scores is a real number, for it starts from one. -/
theorem maxOf_real (h b : Fin 8) (hs : ∀ p s, score q K b h p s ≠ ⊤) :
    maxOf (F := Ideal) c q K h (ix1 b) ≠ ⊥ ∧ maxOf (F := Ideal) c q K h (ix1 b) ≠ ⊤ := by
  refine maxStep_real c q K h 7 b _ hs (maxStep_real c q K h 6 b _ hs (maxStep_real c q K h 5 b _ hs (maxStep_real c q K h 4 b _ hs
    (maxStep_real c q K h 3 b _ hs (maxStep_real c q K h 2 b _ hs (maxStep_real c q K h 1 b _ hs (maxStep_real c q K h 0 b _ hs ?_)))))))
  exact start_real

end Cert.Talk
end
-- ==== Proof.Together.lean ====
/-
# The combination in numbers

What a device makes of four partial results, entry by entry: each is weighed by the exponential of its maximum less the greatest one,
and the weighed values are divided by the weighed sums.
-/
module

public import proofs.«01_k».proof.Proof.Values
public import proofs.«01_k».proof.Proof.Tail

@[expose] public section

noncomputable section

namespace Cert.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

set_option maxRecDepth 16384

variable (c : Dev nD) (q : FVec Ideal S8x1x8x128 .f32) (bt : IVec S8x512 32) (len : IVec S8 32) (K V : FVec Ideal S512x16x8x128 .f32)

/-- Where an entry of the partial result is found in the block of its head. -/
theorem inBlock_apply (k : Fin 3) (b h : Fin 8) (d : Fin 128) : inBlock (ix4 k b h d) = ix4 (0 : Fin 1) b (0 : Fin 1) d := by
  funext a
  fin_cases a <;> rfl

/-- An entry of a partial result, as it is loaded after landing. -/
theorem landed_apply (p : FVec Ideal S3x8x8x128 .bf16) (k : Fin 3) (b h : Fin 8) (d : Fin 128) :
    asLanded (F := Ideal) p (ix5 (0 : Fin 1) k b h d) = p (ix4 k b h d) := by
  refine congrArg p (funext fun a => ?_)
  fin_cases a <;> rfl

/-- The first plane of the partial result: the weighted values. -/
theorem packed_value (b h : Fin 8) (d : Fin 128) :
    partialOf (F := Ideal) c q bt len K V (ix4 (0 : Fin 3) b h d) = valueOf (F := Ideal) c q bt len K V h (ix2 b d) := by
  refine (congrArg (oRows (F := Ideal) c q bt len K V h) (inBlock_apply 0 b h d)).trans ?_
  rw [oRows_eq]
  pointwise [packBlock]

/-- The second plane of the partial result: the maximum. -/
theorem packed_max (b h : Fin 8) (d : Fin 128) :
    partialOf (F := Ideal) c q bt len K V (ix4 (1 : Fin 3) b h d) = maxOf (F := Ideal) c q K h (ix1 b) := by
  refine (congrArg (mRows (F := Ideal) c q bt len K V h) (inBlock_apply 1 b h d)).trans ?_
  rw [mRows_eq]
  pointwise [packColumn, packBlock]

/-- The third plane of the partial result: the sum of weights. -/
theorem packed_sum (b h : Fin 8) (d : Fin 128) :
    partialOf (F := Ideal) c q bt len K V (ix4 (2 : Fin 3) b h d) = sumOf (F := Ideal) c q bt len K h (ix1 b) := by
  refine (congrArg (lRows (F := Ideal) c q bt len K V h) (inBlock_apply 2 b h d)).trans ?_
  rw [lRows_eq]
  pointwise [packColumn, packBlock]

/-- The greatest of the four maxima at an entry. -/
def greatest (p a b d : FVec Ideal S3x8x8x128 .bf16) (i h : Fin 8) (l : Fin 128) : EReal :=
  max (max (max (p (ix4 (1 : Fin 3) i h l)) (a (ix4 (1 : Fin 3) i h l))) (b (ix4 (1 : Fin 3) i h l))) (d (ix4 (1 : Fin 3) i h l))

/-- Kind `k` of the partial result `p`, weighed against the greatest maximum `g`. -/
def weighed (p : FVec Ideal S3x8x8x128 .bf16) (g : EReal) (k : Fin 3) (i h : Fin 8) (l : Fin 128) : EReal :=
  Ideal.exp (p (ix4 (1 : Fin 3) i h l) - g) * p (ix4 k i h l)

/-- An entry of the combined result: the weighed values of the four shards, divided by their weighed sums. -/
theorem combine_apply (p a b d : FVec Ideal S3x8x8x128 .bf16) (i h : Fin 8) (l : Fin 128) :
    combine (F := Ideal) p a b d (ix4 i (0 : Fin 1) h l)
      = Ideal.div
          (weighed p (greatest p a b d i h l) 0 i h l + weighed a (greatest p a b d i h l) 0 i h l + weighed b (greatest p a b d i h l) 0 i h l + weighed d (greatest p a b d i h l) 0 i h l)
          (weighed p (greatest p a b d i h l) 2 i h l + weighed a (greatest p a b d i h l) 2 i h l + weighed b (greatest p a b d i h l) 2 i h l + weighed d (greatest p a b d i h l) 2 i h l) := by
  unfold combine
  pointwise [k0_pay526, k0_pay527, k0_pay528, k0_pay529, k0_pay530, k0_pay531, k0_pay532, k0_pay533, k0_pay534, k0_pay535, k0_pay536, k0_pay537]
  simp only [landed_apply]
  rfl

end Cert.Talk
end
-- ==== Proof.Softmax.lean ====
/-
# The equation

Four shards of a table of pages, each with its own weighing number `m z`: the sums over the shards, brought to one weighing number `g`,
give the weighted mean that a softmax over the entries of the page table gives. A page counts as often as the table names it. Values may
be infinite; scores and weighing numbers are real.
-/
module

public import Idealize.ShloMosaic.PureOps.Ideal
public import Idealize.ShloMosaic.Lib.Pointwise

@[expose] public section

noncomputable section

namespace Cert.Softmax

open Idealize.ShloMosaic

/-- A nonnegative real number distributes over a sum of extended reals. -/
theorem coe_mul_sum {ι : Type} (t : Finset ι) (a : ℝ) (ha : 0 ≤ a) (f : ι → EReal) : (a : EReal) * ∑ i ∈ t, f i = ∑ i ∈ t, (a : EReal) * f i := by
  classical
  induction t using Finset.induction_on with
  | empty => simp
  | insert i t hi ih =>
    rw [Finset.sum_insert hi, Finset.sum_insert hi, EReal.left_distrib_of_nonneg_of_ne_top (EReal.coe_nonneg.mpr ha) (EReal.coe_ne_top a), ih]

/-- A sum of nonnegative numbers times a number is the sum of the products. -/
theorem sum_mul_of_nonneg {ι : Type} (t : Finset ι) (f : ι → EReal) (hf : ∀ i, 0 ≤ f i) (x : EReal) : (∑ i ∈ t, f i) * x = ∑ i ∈ t, f i * x := by
  classical
  induction t using Finset.induction_on with
  | empty => simp
  | insert i t hi ih =>
    rw [Finset.sum_insert hi, Finset.sum_insert hi, EReal.right_distrib_of_nonneg (hf i) (Finset.sum_nonneg fun j _ => hf j), ih]

/-- A sum of real numbers is their sum. -/
theorem coe_sum {ι : Type} (t : Finset ι) (f : ι → ℝ) : ((∑ i ∈ t, f i : ℝ) : EReal) = ∑ i ∈ t, (f i : EReal) := by
  classical
  induction t using Finset.induction_on with
  | empty => simp
  | insert i t hi ih => rw [Finset.sum_insert hi, Finset.sum_insert hi, EReal.coe_add, ih]

variable {J Z P S : Type} [Fintype J] [Fintype Z] [Fintype P] [Fintype S] [DecidableEq Z] [DecidableEq P]
variable (N : Z → P → J → Prop) [∀ z p j, Decidable (N z p j)] (used : J → Prop) [DecidablePred used] (dev : J → Z) (page : J → P)

/-- Counting the uses of each page and summing over the pages is summing over the entries in use. -/
theorem regroup (hN : ∀ z p j, N z p j ↔ used j ∧ z = dev j ∧ p = page j) (G : Z → P → S → EReal) :
    ∑ z, ∑ p, ∑ s, (∑ j, if N z p j then (1 : EReal) else 0) * G z p s = ∑ j, ∑ s, if used j then G (dev j) (page j) s else 0 := by
  have h1 : ∀ z p s, (∑ j, if N z p j then (1 : EReal) else 0) * G z p s = ∑ j, if used j ∧ z = dev j ∧ p = page j then G z p s else 0 := by
    intro z p s
    rw [sum_mul_of_nonneg _ _ fun j => by split_ifs <;> simp]
    refine Finset.sum_congr rfl fun j _ => ?_
    by_cases h : N z p j
    · rw [if_pos h, if_pos ((hN z p j).mp h), one_mul]
    · rw [if_neg h, if_neg fun h' => h ((hN z p j).mpr h'), zero_mul]
  simp only [h1]
  have h2 : ∀ z : Z, ∑ p, ∑ s, ∑ j, (if used j ∧ z = dev j ∧ p = page j then G z p s else 0) = ∑ j, ∑ s, if used j ∧ z = dev j then G z (page j) s else 0 := by
    intro z
    have h3 : ∀ p, ∑ s, ∑ j, (if used j ∧ z = dev j ∧ p = page j then G z p s else 0) = ∑ j, ∑ s, if used j ∧ z = dev j ∧ p = page j then G z p s else 0 :=
      fun p => Finset.sum_comm
    simp only [h3]
    rw [Finset.sum_comm]
    refine Finset.sum_congr rfl fun j _ => ?_
    rw [Finset.sum_comm]
    refine Finset.sum_congr rfl fun s _ => ?_
    rw [Finset.sum_eq_single (page j)]
    · simp
    · intro p _ hp
      rw [if_neg fun h => hp h.2.2]
    · intro h
      exact absurd (Finset.mem_univ _) h
  simp only [h2]
  rw [Finset.sum_comm]
  refine Finset.sum_congr rfl fun j _ => ?_
  rw [Finset.sum_comm]
  refine Finset.sum_congr rfl fun s _ => ?_
  rw [Finset.sum_eq_single (dev j)]
  · simp
  · intro z _ hz
    rw [if_neg fun h => hz h.2]
  · intro h
    exact absurd (Finset.mem_univ _) h

/-- The power of a difference of real numbers is a real number. -/
theorem exp_sub (x y : ℝ) : Ideal.exp ((x : EReal) - (y : EReal)) = ((Real.exp (x - y) : ℝ) : EReal) := by
  rw [← EReal.coe_sub, Ideal.exp_coe]

/-- The shards' weighted sums, brought to one weighing number. -/
theorem shards (hN : ∀ z p j, N z p j ↔ used j ∧ z = dev j ∧ p = page j) (s : Z → P → S → ℝ) (v : Z → P → S → EReal) (m : Z → ℝ) (g M : ℝ) :
    ∑ z, Ideal.exp ((m z : EReal) - g) * ∑ p, ∑ t, (∑ j, if N z p j then (1 : EReal) else 0) * Ideal.exp ((s z p t : EReal) - m z) * v z p t
      = ((Real.exp (M - g) : ℝ) : EReal) * ∑ j, ∑ t, if used j then ((Real.exp (s (dev j) (page j) t - M) : ℝ) : EReal) * v (dev j) (page j) t else 0 := by
  rw [coe_mul_sum _ _ (Real.exp_pos _).le]
  simp only [coe_mul_sum _ _ (Real.exp_pos _).le, exp_sub]
  have e : ∀ z p t (x y : EReal), ((Real.exp (m z - g) : ℝ) : EReal) * (x * ((Real.exp (s z p t - m z) : ℝ) : EReal) * y)
      = x * (((Real.exp (M - g) : ℝ) : EReal) * (((Real.exp (s z p t - M) : ℝ) : EReal) * y)) := by
    intro z p t x y
    have h : ((Real.exp (m z - g) : ℝ) : EReal) * ((Real.exp (s z p t - m z) : ℝ) : EReal)
        = ((Real.exp (M - g) : ℝ) : EReal) * ((Real.exp (s z p t - M) : ℝ) : EReal) := by
      rw [← EReal.coe_mul, ← EReal.coe_mul, ← Real.exp_add, ← Real.exp_add]
      congr 2
      ring
    calc _ = x * ((((Real.exp (m z - g) : ℝ) : EReal) * ((Real.exp (s z p t - m z) : ℝ) : EReal)) * y) := by ac_rfl
      _ = _ := by rw [h, mul_assoc]
  simp only [e]
  rw [regroup N used dev page hN fun z p t => ((Real.exp (M - g) : ℝ) : EReal) * (((Real.exp (s z p t - M) : ℝ) : EReal) * v z p t)]
  refine Finset.sum_congr rfl fun j _ => Finset.sum_congr rfl fun t _ => ?_
  split_ifs
  · rfl
  · rw [mul_zero]

/-- Dividing by a positive real number. -/
theorem div_pos (x : EReal) {L : ℝ} (hL : 0 < L) : Ideal.div x (L : EReal) = x * ((L⁻¹ : ℝ) : EReal) := by
  unfold Ideal.div
  rw [if_neg (by exact_mod_cast hL.ne'), EReal.coe_inv]

/-- The softmax over the entries in use, whose values are `w`, and the combination of the shards. -/
theorem combination [Nonempty S] (hN : ∀ z p j, N z p j ↔ used j ∧ z = dev j ∧ p = page j) (s : Z → P → S → ℝ) (v : Z → P → S → EReal) (m : Z → ℝ) (g M : ℝ)
    (hex : ∃ j, used j) (r w : J → S → EReal) (hr : ∀ j t, used j → r j t = (s (dev j) (page j) t : ℝ)) (hw : ∀ j t, used j → w j t = v (dev j) (page j) t) :
    Ideal.div (∑ z, Ideal.exp ((m z : EReal) - g) * ∑ p, ∑ t, (∑ j, if N z p j then (1 : EReal) else 0) * Ideal.exp ((s z p t : EReal) - m z) * v z p t)
        (∑ z, Ideal.exp ((m z : EReal) - g) * ∑ p, ∑ t, (∑ j, if N z p j then (1 : EReal) else 0) * Ideal.exp ((s z p t : EReal) - m z))
      = ∑ j, ∑ t, Ideal.div (Ideal.exp ((if used j then r j t else ⊥) - (M : EReal))) (∑ j, ∑ t, Ideal.exp ((if used j then r j t else ⊥) - (M : EReal))) * w j t := by
  have hnum := shards N used dev page hN s v m g M
  have hden := shards N used dev page hN s (fun _ _ _ => 1) m g M
  simp only [mul_one] at hden
  rw [hnum, hden]
  -- the weights of the reference
  have hE : ∀ j t, Ideal.exp ((if used j then r j t else ⊥) - (M : EReal)) = (((if used j then Real.exp (s (dev j) (page j) t - M) else 0) : ℝ) : EReal) := by
    intro j t
    by_cases h : used j
    · rw [if_pos h, if_pos h, hr j t h, exp_sub]
    · rw [if_neg h, if_neg h, EReal.bot_sub, Ideal.exp_bot, EReal.coe_zero]
  have hL : (∑ j, ∑ t, if used j then ((Real.exp (s (dev j) (page j) t - M) : ℝ) : EReal) else 0)
      = ((∑ j, ∑ t, (if used j then Real.exp (s (dev j) (page j) t - M) else 0) : ℝ) : EReal) := by
    rw [coe_sum]
    refine Finset.sum_congr rfl fun j _ => ?_
    rw [coe_sum]
    refine Finset.sum_congr rfl fun t _ => ?_
    split_ifs <;> simp
  have hpos : 0 < ∑ j, ∑ t : S, (if used j then Real.exp (s (dev j) (page j) t - M) else 0) := by
    obtain ⟨j, hj⟩ := hex
    refine Finset.sum_pos' (fun j _ => Finset.sum_nonneg fun t _ => by split_ifs <;> positivity) ⟨j, Finset.mem_univ _, ?_⟩
    simp only [if_pos hj]
    exact Finset.sum_pos (fun t _ => Real.exp_pos _) Finset.univ_nonempty
  simp only [hE]
  rw [hL, ← EReal.coe_mul]
  have hL' : (∑ j, ∑ t, (((if used j then Real.exp (s (dev j) (page j) t - M) else 0) : ℝ) : EReal))
      = ((∑ j, ∑ t, (if used j then Real.exp (s (dev j) (page j) t - M) else 0) : ℝ) : EReal) := by
    rw [coe_sum]
    exact Finset.sum_congr rfl fun j _ => (coe_sum _ _).symm
  rw [hL']
  generalize (∑ j, ∑ t : S, (if used j then Real.exp (s (dev j) (page j) t - M) else 0)) = L at hpos
  rw [div_pos _ (mul_pos (Real.exp_pos _) hpos)]
  simp only [div_pos _ hpos]
  -- one factor
  have hc : ∀ X : EReal, ((Real.exp (M - g) : ℝ) : EReal) * X * (((Real.exp (M - g) * L)⁻¹ : ℝ) : EReal) = ((L⁻¹ : ℝ) : EReal) * X := by
    intro X
    rw [mul_right_comm, ← EReal.coe_mul]
    congr 2
    have := (Real.exp_pos (M - g)).ne'
    field_simp
  rw [hc, coe_mul_sum _ _ (inv_pos.mpr hpos).le]
  refine Finset.sum_congr rfl fun j _ => ?_
  rw [coe_mul_sum _ _ (inv_pos.mpr hpos).le]
  refine Finset.sum_congr rfl fun t _ => ?_
  by_cases h : used j
  · simp only [if_pos h]
    rw [hw j t h, mul_left_comm, mul_assoc]
  · simp only [if_neg h]
    rw [EReal.coe_zero, zero_mul, zero_mul, mul_zero]

end Cert.Softmax
end
-- ==== Proof.Plain.lean ====
/-
# The reference at an index

Paged attention written plainly: every result is a softmax over the 8192 tokens that a sequence's page table names, those at or past its
length set to minus infinity before the softmax, applied to the rows of V.
-/
module

public import proofs.«01_k».proof.Proof.Gen.ReferenceIdeal.Run
public import Idealize.ShloMosaic.Lib.Pointwise
public import proofs.«01_k».proof.Proof.Values

@[expose] public section

noncomputable section

namespace Cert.Plain

open Cert.ReferenceIdeal Cert.ReferenceIdeal.Gen Cert.ReferenceIdeal.Value
open Idealize.ShloMosaic Idealize.ShloMosaic.TcCoe

set_option maxRecDepth 16384

variable (q : FVec Ideal S8x1x8x128 .f32) (K V : FVec Ideal S2048x16x8x128 .f32) (bt : IVec S8x512 32) (len : IVec S8 32)

/-- The page table as the rows to look up: a negative entry counts from the end. -/
def looked : IVec S8x512x1 32 :=
  broadcastInDim S8x512x1 ![0, 1] bcast_S8x512_S8x512x1_0_1
    (select (cmpi .slt bt (broadcastInDim S8x512 ![] bcast_S_S8x512 (constantI S_ 32 0#32)))
      (addi bt (broadcastInDim S8x512 ![] bcast_S_S8x512 (constantI S_ 32 2048#32))) bt)

/-- The rows of a paged array in the order of a sequence's tokens. -/
def rows (T : FVec Ideal S2048x16x8x128 .f32) : FVec Ideal S8x8192x8x128 .f32 :=
  shapeCast _ (Host.gather gather_S2048x16x8x128_S8x512x1_S8x512x16x8x128_234_0_n_n_0_2_1168128 T (looked bt))
    shapeCasts_S8x512x16x8x128_S8x8192x8x128

/-- The page in the table that a token lies in: its position divided by the size of a page, rounded down. -/
def place : IVec S8192 32 :=
  select (andi (cmpi .ne (signi (iotaInDim S8192 32 0)) (broadcastInDim S8192 ![] bcast_S_S8192 (signi (id (constantI S_ 32 16#32)))))
      (cmpi .ne (Host.remsi (iotaInDim S8192 32 0) (broadcastInDim S8192 ![] bcast_S_S8192 (id (constantI S_ 32 16#32))))
        (broadcastInDim S8192 ![] bcast_S_S8192 (constantI S_ 32 0#32))))
    (subi (Host.divsi (iotaInDim S8192 32 0) (broadcastInDim S8192 ![] bcast_S_S8192 (id (constantI S_ 32 16#32))))
      (broadcastInDim S8192 ![] bcast_S_S8192 (constantI S_ 32 1#32)))
    (Host.divsi (iotaInDim S8192 32 0) (broadcastInDim S8192 ![] bcast_S_S8192 (id (constantI S_ 32 16#32))))

/-- The scores of a query, those of the tokens past the sequence's length at minus infinity. -/
def masked : FVec Ideal S8x8x1x8192 .f32 :=
  select (broadcastInDim S8x8x1x8192 ![0, 1, 2, 3] bcast_S8x1x1x8192_S8x8x1x8192_0_1_2_3 (broadcastInDim S8x1x1x8192 ![0, 3] bcast_S8x8192_S8x1x1x8192_0_3
      (cmpi .slt (broadcastInDim S8x8192 ![0, 1] bcast_S1x8192_S8x8192_0_1 (broadcastInDim S1x8192 ![1] bcast_S8192_S1x8192_1 place))
        (broadcastInDim S8x8192 ![0, 1] bcast_S8x1_S8x8192_0_1 (broadcastInDim S8x1 ![0] bcast_S8_S8x1_0 len)))))
    (mulf (Host.dotGeneral dot_S8x1x8x128_S8x8192x8x128_S8x8x1x8192_3_3_1_1_02_02 none q (rows bt K))
      (broadcastInDim S8x8x1x8192 ![] bcast_S_S8x8x1x8192 (constant S_ .f32 0x3DB504F3#32)))
    (broadcastInDim S8x8x1x8192 ![] bcast_S_S8x8x1x8192 (id (constant S_ .f32 0xFF800000#32)))

/-- The greatest score of every query. -/
def greatest : FVec Ideal S8x8x1 .f32 :=
  Host.reduce FloatOps.maximumf (masked q K bt len) (constant S_ .f32 0xFF800000#32) reducesTo_S8x8x1x8192_S8x8x1_d3 h_S_

/-- The exponentials of the scores, the greatest one taken away first. -/
def powers : FVec Ideal S8x8x1x8192 .f32 :=
  Host.exp (subf (masked q K bt len) (broadcastInDim S8x8x1x8192 ![0, 1, 2, 3] bcast_S8x8x1x1_S8x8x1x8192_0_1_2_3
    (broadcastInDim S8x8x1x1 ![0, 1, 2] bcast_S8x8x1_S8x8x1x1_0_1_2 (greatest q K bt len))))

/-- The whole attention. -/
def attention : FVec Ideal S8x1x8x128 .f32 :=
  transpose S8x1x8x128 [0, 3, 1, 2] (Host.dotGeneral dot_S8x8192x8x128_S8x8x1x8192_S8x8x128x1_1_3_3_2_02_01 none (rows bt V)
    (Host.divf (powers q K bt len) (broadcastInDim S8x8x1x8192 ![0, 1, 2, 3] bcast_S8x8x1x1_S8x8x1x8192_0_1_2_3
      (broadcastInDim S8x8x1x1 ![0, 1, 2] bcast_S8x8x1_S8x8x1x1_0_1_2
        (Host.reduceAdd (powers q K bt len) (constant S_ .f32 0x0#32) reducesTo_S8x8x1x8192_S8x8x1_d3 h_S_)))))

/-- The reference's result is this attention of its arguments. -/
theorem result_eq (m : (ℓ : Loc nD τ sig) → Buf (Elt Ideal) ℓ) (c : Dev nD) :
    res_main_v38 m c = attention (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

/-- A look-up whose entry is a page takes that page's row. -/
theorem gather_apply (T : FVec Ideal S2048x16x8x128 .f32) (w : IVec S8x512x1 32) (b : Fin 8) (j : Fin 512) (t : Fin 16) (h : Fin 8) (d : Fin 128)
    (p : Fin 2048) (hp : w (ix3 b j (0 : Fin 1)) = BitVec.ofNat 32 p.val) :
    Host.gather gather_S2048x16x8x128_S8x512x1_S8x512x16x8x128_234_0_n_n_0_2_1168128 T w (ix5 b j t h d) = T (ix4 p t h d) := by
  have hr : (BitVec.ofNat 32 p.val).toInt = p.val := by
    have := p.isLt
    rw [BitVec.toInt_eq_toNat_cond, BitVec.toNat_ofNat, Nat.mod_eq_of_lt (by omega), if_pos (by omega)]
  have hs : ∀ v, w v = BitVec.ofNat 32 p.val → min (w v).toInt.toNat (2048 - 1) = p.val := fun v hv => by
    have := p.isLt
    rw [hv, hr, Int.toNat_natCast]; omega
  have hat : gather_S2048x16x8x128_S8x512x1_S8x512x16x8x128_234_0_n_n_0_2_1168128.siIdx (ix5 b j t h d) (0 : Fin 1) = ix3 b j (0 : Fin 1) := by
    funext a
    fin_cases a <;> rfl
  unfold Host.gather
  refine congrArg T (funext fun a => Fin.ext ?_)
  fin_cases a
  · show min (w _).toInt.toNat (2048 - 1) + 0 + 0 = p.val
    exact hs _ ((congrArg w hat).trans hp)
  · exact Nat.zero_add _
  · exact Nat.zero_add _
  · exact Nat.zero_add _

/-- A token's row in a paged array: the page that its sequence's table names there, when that is a page. -/
theorem rows_apply (T : FVec Ideal S2048x16x8x128 .f32) (b : Fin 8) (k : Fin 8192) (h : Fin 8) (d : Fin 128) (p : Fin 2048)
    (hp : bt (ix2 b (⟨k.val / 16, by omega⟩ : Fin 512)) = BitVec.ofNat 32 p.val) :
    rows bt T (ix4 b k h d) = T (ix4 p (⟨k.val % 16, by omega⟩ : Fin 16) h d) := by
  have hl : looked bt (ix3 b (⟨k.val / 16, by omega⟩ : Fin 512) (0 : Fin 1)) = BitVec.ofNat 32 p.val := by
    unfold looked
    pointwise
    rw [hp]
    have hn : ¬ (BitVec.ofNat 32 p.val).toInt < 0 := by
      rw [Cert.Talk.toInt_ofNat_small _ (by omega)]
      omega
    simp [Scalar.select, IntOp.cmpi, BitVec.slt, hn]
  unfold rows
  pointwise
  exact gather_apply T (looked bt) b _ _ h d p hl

/-- The words of the division by the size of a page. -/
theorem quotient_word (n : ℕ) (hn : n < 8192) : IntOp.divsi .host (BitVec.ofNat 32 n) 16#32 = BitVec.ofNat 32 (n / 16) := by
  unfold IntOp.divsi
  rw [if_neg (by simp [IntOp.SDivCorner])]
  apply BitVec.eq_of_toInt_eq
  rw [BitVec.toInt_sdiv_of_ne_or_ne _ _ (Or.inr (by decide)), Cert.Talk.toInt_ofNat_small n (by omega), Cert.Talk.toInt_ofNat_small (n / 16) (by omega)]
  exact Int.tdiv_eq_ediv_of_nonneg (Int.natCast_nonneg n)

/-- The remainder of a token number by sixteen, on words. -/
theorem remainder_word (n : ℕ) (hn : n < 8192) : IntOp.remsi .host (BitVec.ofNat 32 n) 16#32 = BitVec.ofNat 32 (n % 16) := by
  unfold IntOp.remsi
  rw [if_neg (by simp [IntOp.SDivCorner])]
  apply BitVec.eq_of_toInt_eq
  rw [BitVec.toInt_srem, Cert.Talk.toInt_ofNat_small n (by omega), Cert.Talk.toInt_ofNat_small (n % 16) (by omega)]
  exact Int.tmod_eq_emod_of_nonneg (Int.natCast_nonneg n)

/-- A token's place in the page table. -/
theorem place_apply (k : Fin 8192) : place (ix1 k) = BitVec.ofNat 32 (k.val / 16) := by
  unfold place
  pointwise
  show Scalar.select (IntOp.andi (IntOp.cmpi .ne (if BitVec.ofNat 32 k.val = 0 then 0 else if (BitVec.ofNat 32 k.val).msb = true then -1 else 1) 1#32)
    (IntOp.cmpi .ne (IntOp.remsi .host (BitVec.ofNat 32 k.val) 16#32) 0#32)) _ (IntOp.divsi .host (BitVec.ofNat 32 k.val) 16#32) = _
  rw [quotient_word _ k.isLt, remainder_word _ k.isLt]
  have hm : (BitVec.ofNat 32 k.val).msb = false := by
    rw [BitVec.msb_eq_decide, BitVec.toNat_ofNat, decide_eq_false_iff_not]
    omega
  by_cases h0 : BitVec.ofNat 32 k.val = 0
  · have hk : k.val = 0 := by
      have := congrArg BitVec.toNat h0
      rw [BitVec.toNat_ofNat] at this
      have h2 : (0 : BitVec 32).toNat = 0 := rfl
      omega
    simp [hk, Scalar.select, IntOp.cmpi, IntOp.andi]
  · rw [if_neg h0, hm, if_neg (by decide)]
    simp [Scalar.select, IntOp.cmpi, IntOp.andi]

/-- The page in place `j` of a sequence's table lies within the sequence's length. -/
def Used (b : Fin 8) (j : Fin 512) : Prop := (j.val : ℤ) < (len (ix1 b)).toInt

instance (b : Fin 8) (j : Fin 512) : Decidable (Used len b j) := inferInstanceAs (Decidable (_ < _))

/-- The score of a token before the mask. -/
def plainScore (b h : Fin 8) (k : Fin 8192) : EReal :=
  (∑ x : Fin 128, q (ix4 b (0 : Fin 1) h x) * rows bt K (ix4 b k h x)) * Ideal.ofBits .f32 0x3DB504F3#32

/-- The masked score of a token: its score when its page is in use, and minus infinity otherwise. -/
theorem masked_apply (b h : Fin 8) (k : Fin 8192) :
    masked q K bt len (ix4 b h (0 : Fin 1) k) = if Used len b ⟨k.val / 16, by omega⟩ then plainScore q K bt b h k else ⊥ := by
  unfold masked
  pointwise
  rw [place_apply]
  show Scalar.select _ _ (Ideal.ofBits .f32 0xFF800000#32) = _
  rw [Cert.Talk.minusInfinity]
  simp only [Scalar.select, IntOp.cmpi, BitVec.slt, Cert.Talk.toInt_ofNat_small (k.val / 16) (by omega)]
  by_cases hu : Used len b ⟨k.val / 16, by omega⟩
  · rw [if_pos hu, decide_eq_true (show ((k.val / 16 : ℕ) : ℤ) < (len (ix1 b)).toInt from hu)]; rfl
  · rw [if_neg hu, decide_eq_false (show ¬ ((k.val / 16 : ℕ) : ℤ) < (len (ix1 b)).toInt from hu)]; rfl

/-- The greatest masked score of a sequence. -/
theorem greatest_apply (b h : Fin 8) :
    greatest q K bt len (ix3 b h (0 : Fin 1)) = Finset.univ.fold max ⊥ fun k : Fin 8192 => masked q K bt len (ix4 b h (0 : Fin 1) k) := by
  unfold greatest
  pointwise
  rw [Cert.Talk.minusInfinity]

/-- The greatest score of a query is a real number: a token is in use, and its score is one. -/
theorem greatest_real (b h : Fin 8) (hlen : 1 ≤ (len (ix1 b)).toInt)
    (hs : ∀ k : Fin 8192, Used len b ⟨k.val / 16, by omega⟩ → plainScore q K bt b h k ≠ ⊥ ∧ plainScore q K bt b h k ≠ ⊤) :
    greatest q K bt len (ix3 b h (0 : Fin 1)) ≠ ⊥ ∧ greatest q K bt len (ix3 b h (0 : Fin 1)) ≠ ⊤ := by
  rw [greatest_apply]
  constructor
  · refine ((Finset.lt_fold_max _).mpr (Or.inr ⟨(0 : Fin 8192), Finset.mem_univ _, ?_⟩)).ne'
    have hu : Used len b ⟨(0 : Fin 8192).val / 16, by decide⟩ := by
      show (((0 : Fin 8192).val / 16 : ℕ) : ℤ) < _
      exact lt_of_lt_of_le (by decide) hlen
    rw [masked_apply, if_pos hu]
    exact bot_lt_iff_ne_bot.mpr (hs 0 hu).1
  · refine ((Finset.fold_max_lt _).mpr ⟨bot_lt_top, fun k _ => ?_⟩).ne
    rw [masked_apply]
    split_ifs with hu
    · exact lt_top_iff_ne_top.mpr (hs k hu).2
    · exact bot_lt_top

/-- The power of a token. -/
theorem powers_apply (b h : Fin 8) (k : Fin 8192) :
    powers q K bt len (ix4 b h (0 : Fin 1) k) = Ideal.exp (masked q K bt len (ix4 b h (0 : Fin 1) k) - greatest q K bt len (ix3 b h (0 : Fin 1))) := by
  unfold powers
  pointwise

/-- A sum over all tokens of a sequence is a sum over the places of its table and the tokens of a page. -/
theorem sum_tokens (f : Fin 8192 → EReal) :
    ∑ k, f k = ∑ j : Fin 512, ∑ t : Fin 16, f ⟨16 * j.val + t.val, by omega⟩ := by
  rw [← Fintype.sum_prod_type']
  refine (Fintype.sum_bijective (fun x : Fin 512 × Fin 16 => (⟨16 * x.1.val + x.2.val, by omega⟩ : Fin 8192)) ?_ _ _ fun _ => rfl).symm
  rw [Function.bijective_iff_has_inverse]
  refine ⟨fun y => (⟨y.val / 16, by omega⟩, ⟨y.val % 16, by omega⟩), fun x => Prod.ext (Fin.ext ?_) (Fin.ext ?_), fun y => Fin.ext ?_⟩
  · show (16 * x.1.val + x.2.val) / 16 = x.1.val
    omega
  · show (16 * x.1.val + x.2.val) % 16 = x.2.val
    omega
  · show 16 * (y.val / 16) + y.val % 16 = y.val
    omega

/-- A token of a sequence by its place in the table and its place in the page. -/
def token (j : Fin 512) (t : Fin 16) : Fin 8192 := ⟨16 * j.val + t.val, by omega⟩

/-- What the softmax's numerator is at a token: nothing past the sequence's length. -/
def power (b h : Fin 8) (j : Fin 512) (t : Fin 16) : EReal :=
  Ideal.exp ((if Used len b j then plainScore q K bt b h (token j t) else ⊥) - greatest q K bt len (ix3 b h (0 : Fin 1)))

/-- The power of a token, named by its page and its place there. -/
theorem powers_token (b h : Fin 8) (j : Fin 512) (t : Fin 16) :
    powers q K bt len (ix4 b h (0 : Fin 1) (token j t)) = power q K bt len b h j t := by
  have hj : (⟨(token j t).val / 16, by omega⟩ : Fin 512) = j := Fin.ext (by show (16 * j.val + t.val) / 16 = j.val; omega)
  rw [powers_apply, masked_apply, hj]
  rfl

/-- The attention at an index. -/
theorem attention_apply (b h : Fin 8) (d : Fin 128) :
    attention q K V bt len (ix4 b (0 : Fin 1) h d)
      = ∑ j : Fin 512, ∑ t : Fin 16, Ideal.div (power q K bt len b h j t) (∑ j, ∑ t, power q K bt len b h j t) * rows bt V (ix4 b (token j t) h d) := by
  unfold attention
  pointwise
  rw [sum_tokens]
  have hd : ∑ k, powers q K bt len (ix4 b h (0 : Fin 1) k) = ∑ j, ∑ t, power q K bt len b h j t :=
    (sum_tokens _).trans (Finset.sum_congr rfl fun j _ => Finset.sum_congr rfl fun t _ => powers_token q K bt len b h j t)
  refine Finset.sum_congr rfl fun j _ => Finset.sum_congr rfl fun t _ => ?_
  rw [hd, mul_comm]
  exact congrArg (fun x => Ideal.div x _ * _) (powers_token q K bt len b h j t)

end Cert.Plain
-- ==== Proof.Equal.lean ====
/-
# The devices' result is the reference's

The page pool lies in four parts along the third axis of the mesh. What a device combines are the sums over the four parts, and these
are the softmax over the entries of the page table that are in use.
-/
module

public import proofs.«01_k».proof.Proof.Together
public import proofs.«01_k».proof.Proof.Softmax
public import proofs.«01_k».proof.Proof.Plain

@[expose] public section

noncomputable section

namespace Cert.Talk

open Cert.KernelIdeal Cert.KernelIdeal.Gen

open Idealize.ShloMosaic
open Idealize.ShloMosaic.TcCoe

set_option maxRecDepth 16384

/-- The device at place `z` of the ring that `c` lies in. -/
def across (c : Dev nD) (z : Fin 4) : Dev nD :=
  ⟨8 * (c.val / 8) + 4 * ((c.val / 4) % 2) + z.val, by have := c.isLt; have : nD = 16 := rfl; omega⟩

/-- The device at place `z` of a ring has number `z` in it. -/
theorem across_mod (c : Dev nD) (z : Fin 4) : (across c z).val % 4 = z.val := by
  show (8 * (c.val / 8) + 4 * ((c.val / 4) % 2) + z.val) % 4 = z.val
  omega

/-- The place of device `c` in its ring. -/
def spot (c : Dev nD) : Fin 4 := ⟨c.val % 4, by omega⟩

/-- A device is found at its own place of its ring. -/
theorem across_spot (c : Dev nD) : across c (spot c) = c := by
  refine Fin.ext ?_
  have := c.isLt
  have : nD = 16 := rfl
  show 8 * (c.val / 8) + 4 * ((c.val / 4) % 2) + c.val % 4 = c.val
  omega

/-- Peer `i` is the device `i + 1` places further in the ring. -/
theorem across_peer (c : Dev nD) (i : Fin 3) : peer i c = across c (spot c + i.succ.castLE (by decide)) := by
  refine Fin.ext ?_
  show 8 * (c.val / 8) + 4 * ((c.val / 4) % 2) + ((c.val % 4) + (i.val + 1)) % 4 = 8 * (c.val / 8) + 4 * ((c.val / 4) % 2) + (spot c + i.succ.castLE (by decide)).val
  rw [Fin.val_add]
  rfl

/-- A sum around the ring, from any place, is the sum over its places. -/
theorem sum_around (f : Fin 4 → EReal) (x : Fin 4) : f x + f (x + 3) + f (x + 2) + f (x + 1) = ∑ z, f z := by
  rw [Fin.sum_univ_four]
  fin_cases x
  · show f 0 + f 3 + f 2 + f 1 = _
    abel
  · show f 1 + f 0 + f 3 + f 2 = _
    abel
  · show f 2 + f 1 + f 0 + f 3 = _
    abel
  · show f 3 + f 2 + f 1 + f 0 = _
    abel

/-- What a device combines, over the places of its ring. -/
theorem combined_apply (X : Dev nD → FVec Ideal S3x8x8x128 .bf16) (c : Dev nD) (b h : Fin 8) (d : Fin 128) :
    combined (F := Ideal) X c (ix4 b (0 : Fin 1) h d)
      = Ideal.div (∑ z, weighed (X (across c z)) (greatest (X c) (X (peer (back 0) c)) (X (peer (back 1) c)) (X (peer (back 2) c)) b h d) 0 b h d)
          (∑ z, weighed (X (across c z)) (greatest (X c) (X (peer (back 0) c)) (X (peer (back 1) c)) (X (peer (back 2) c)) b h d) 2 b h d) := by
  refine (combine_apply _ _ _ _ b h d).trans ?_
  have hsum : ∀ (g : EReal) (k : Fin 3), weighed (X c) g k b h d + weighed (X (peer (back 0) c)) g k b h d + weighed (X (peer (back 1) c)) g k b h d
      + weighed (X (peer (back 2) c)) g k b h d = ∑ z, weighed (X (across c z)) g k b h d := fun g k => by
    rw [← sum_around (fun z => weighed (X (across c z)) g k b h d) (spot c)]
    refine congrArg₂ (· + ·) (congrArg₂ (· + ·) (congrArg₂ (· + ·) ?_ ?_) ?_) ?_
    · show _ = weighed (X (across c (spot c))) g k b h d
      rw [across_spot]
    · exact congrArg (fun e => weighed (X e) g k b h d) (across_peer c (back 0))
    · exact congrArg (fun e => weighed (X e) g k b h d) (across_peer c (back 1))
    · exact congrArg (fun e => weighed (X e) g k b h d) (across_peer c (back 2))
  rw [hsum, hsum]

/-- The greatest of four real numbers is a real number. -/
theorem greatest_is_real (p a b d : FVec Ideal S3x8x8x128 .bf16) (i h : Fin 8) (l : Fin 128)
    (hp : p (ix4 (1 : Fin 3) i h l) ≠ ⊥ ∧ p (ix4 (1 : Fin 3) i h l) ≠ ⊤) (ha : a (ix4 (1 : Fin 3) i h l) ≠ ⊤) (hb : b (ix4 (1 : Fin 3) i h l) ≠ ⊤)
    (hd : d (ix4 (1 : Fin 3) i h l) ≠ ⊤) : greatest p a b d i h l ≠ ⊥ ∧ greatest p a b d i h l ≠ ⊤ := by
  unfold greatest
  refine ⟨(lt_of_lt_of_le (bot_lt_iff_ne_bot.mpr hp.1) (((le_max_left _ _).trans (le_max_left _ _)).trans (le_max_left _ _))).ne', ?_⟩
  exact (max_lt (max_lt (max_lt (lt_top_iff_ne_top.mpr hp.2) (lt_top_iff_ne_top.mpr ha)) (lt_top_iff_ne_top.mpr hb)) (lt_top_iff_ne_top.mpr hd)).ne

/-- A factor may be applied to the query before the sum or to the sum after it, all numbers being real. -/
theorem factor_out (n : ℕ) (a k : Fin n → EReal) (f : EReal) (ha : ∀ x, a x ≠ ⊥ ∧ a x ≠ ⊤) (hk : ∀ x, k x ≠ ⊥ ∧ k x ≠ ⊤) (hf : f ≠ ⊥ ∧ f ≠ ⊤) :
    ∃ r : ℝ, ∑ x, a x * f * k x = (r : EReal) ∧ (∑ x, a x * k x) * f = (r : EReal) := by
  lift f to ℝ using ⟨hf.2, hf.1⟩
  have ea : ∀ x, ((a x).toReal : EReal) = a x := fun x => EReal.coe_toReal (ha x).2 (ha x).1
  have ek : ∀ x, ((k x).toReal : EReal) = k x := fun x => EReal.coe_toReal (hk x).2 (hk x).1
  refine ⟨∑ x, (a x).toReal * f * (k x).toReal, ?_, ?_⟩
  · rw [Softmax.coe_sum]
    exact Finset.sum_congr rfl fun x _ => by rw [EReal.coe_mul, EReal.coe_mul, ea, ek]
  · have e : ∑ x, a x * k x = ((∑ x, (a x).toReal * (k x).toReal : ℝ) : EReal) := by
      rw [Softmax.coe_sum]
      exact Finset.sum_congr rfl fun x _ => by rw [EReal.coe_mul, ea, ek]
    rw [e, ← EReal.coe_mul, Finset.sum_mul]
    exact congrArg _ (Finset.sum_congr rfl fun x _ => by ring)

variable (q : FVec Ideal S8x1x8x128 .f32) (bt : IVec S8x512 32) (len : IVec S8 32) (K V : Dev nD → FVec Ideal S512x16x8x128 .f32)
  (K' V' : FVec Ideal Cert.ReferenceIdeal.S2048x16x8x128 .f32)

/-- Each device has its part of a paged array. -/
def Parted (T : Dev nD → FVec Ideal S512x16x8x128 .f32) (T' : FVec Ideal Cert.ReferenceIdeal.S2048x16x8x128 .f32) : Prop :=
  ∀ (c : Dev nD) (p : Fin 512) (s : Fin 16) (h : Fin 8) (d : Fin 128), T c (ix4 p s h d) = T' (ix4 (⟨512 * (c.val % 4) + p.val, by omega⟩ : Fin 2048) s h d)

/-- The page that an entry of the table names. -/
def pageNo (b : Fin 8) (j : Fin 512) : ℕ := (bt (ix2 b j)).toNat % 2048

/-- The part of the pool that it lies in, and its place in that part. -/
def partNo (b : Fin 8) (j : Fin 512) : Fin 4 := ⟨pageNo bt b j / 512, by unfold pageNo; omega⟩
/-- The page that entry `j` names, counted within its part. -/
def inPart (b : Fin 8) (j : Fin 512) : Fin 512 := ⟨pageNo bt b j % 512, by omega⟩

/-- Entry `j` of the table names one page of one part, and only when it is in use. -/
theorem names_iff (b : Fin 8) (hpage : ∀ j : Fin 512, Plain.Used len b j → ∃ p : Fin 2048, bt (ix2 b j) = BitVec.ofNat 32 p.val)
    (z : Fin 4) (p j : Fin 512) : Names bt len z.val b p j ↔ Plain.Used len b j ∧ z = partNo bt b j ∧ p = inPart bt b j := by
  constructor
  · rintro ⟨hw, hu⟩
    have hn : pageNo bt b j = p.val + 512 * z.val := by
      unfold pageNo
      rw [hw, BitVec.toNat_ofNat]
      omega
    exact ⟨hu, Fin.ext (by show z.val = pageNo bt b j / 512; omega), Fin.ext (by show p.val = pageNo bt b j % 512; omega)⟩
  · rintro ⟨hu, rfl, rfl⟩
    obtain ⟨p, hp⟩ := hpage j hu
    refine ⟨?_, hu⟩
    have hn : pageNo bt b j = p.val := by
      unfold pageNo
      rw [hp, BitVec.toNat_ofNat]
      omega
    rw [hp]
    refine congrArg _ ?_
    show p.val = pageNo bt b j % 512 + 512 * (pageNo bt b j / 512)
    omega

/-- The row of a token in the whole array is its row in the part of the device that has its page. -/
theorem rows_parted (T : Dev nD → FVec Ideal S512x16x8x128 .f32) (T' : FVec Ideal Cert.ReferenceIdeal.S2048x16x8x128 .f32) (hT : Parted T T') (c : Dev nD)
    (b : Fin 8) (j : Fin 512) (hp : ∃ p : Fin 2048, bt (ix2 b j) = BitVec.ofNat 32 p.val) (t : Fin 16) (h : Fin 8) (d : Fin 128) :
    Plain.rows bt T' (ix4 b (Plain.token j t) h d) = T (across c (partNo bt b j)) (ix4 (inPart bt b j) t h d) := by
  obtain ⟨p, hp⟩ := hp
  have hn : pageNo bt b j = p.val := by
    unfold pageNo
    rw [hp, BitVec.toNat_ofNat]
    omega
  have hj : (⟨(Plain.token j t).val / 16, by have := (Plain.token j t).isLt; omega⟩ : Fin 512) = j := Fin.ext (by show (16 * j.val + t.val) / 16 = j.val; omega)
  have ht : (⟨(Plain.token j t).val % 16, by omega⟩ : Fin 16) = t := Fin.ext (by show (16 * j.val + t.val) % 16 = t.val; omega)
  rw [Plain.rows_apply bt T' b (Plain.token j t) h d p (by rw [hj]; exact hp), ht, hT]
  refine congrArg (fun x => T' (ix4 x t h d)) (Fin.ext ?_)
  show p.val = 512 * ((across c (partNo bt b j)).val % 4) + pageNo bt b j % 512
  rw [across_mod]
  show p.val = 512 * (pageNo bt b j / 512) + pageNo bt b j % 512
  omega

/-- The devices' result is the reference's: with real queries and keys, at least one page in use, and pages that exist. -/
theorem combined_eq (hK : Parted K K') (hV : Parted V V') (hq : ∀ i, q i ≠ ⊥ ∧ q i ≠ ⊤) (hk : ∀ c i, K c i ≠ ⊥ ∧ K c i ≠ ⊤)
    (hlen : ∀ b : Fin 8, 1 ≤ (len (ix1 b)).toInt)
    (hpage : ∀ (b : Fin 8) (j : Fin 512), (j.val : ℤ) < (len (ix1 b)).toInt → ∃ p : Fin 2048, bt (ix2 b j) = BitVec.ofNat 32 p.val) (c : Dev nD) :
    combined (F := Ideal) (fun e => partialOf (F := Ideal) e q bt len (K e) (V e)) c = Plain.attention q K' V' bt len := by
  refine funext fun i => ?_
  obtain ⟨b, z, h, d, rfl⟩ : ∃ b z h d, i = ix4 b z h d := ⟨i 0, i 1, i 2, i 3, funext fun a => by fin_cases a <;> rfl⟩
  obtain rfl : z = (0 : Fin 1) := Subsingleton.elim _ _
  -- every score is real, on the device and in the reference
  have hs : ∀ (e : Dev nD) (p : Fin 512) (s : Fin 16), ∃ r : ℝ, score q (K e) b h p s = (r : EReal) := fun e p s => by
    obtain ⟨r, hr, _⟩ := factor_out 128 (fun x => q (ix4 b (0 : Fin 1) h x)) (fun x => K e (ix4 p s h x)) factor (fun x => hq _) (fun x => hk e _) factor_real
    exact ⟨r, hr⟩
  have hsr : ∀ (e : Dev nD) (p : Fin 512) (s : Fin 16), score q (K e) b h p s = ((score q (K e) b h p s).toReal : EReal) := fun e p s => by
    obtain ⟨r, hr⟩ := hs e p s
    rw [hr, EReal.toReal_coe]
  have hplain : ∀ (j : Fin 512) (t : Fin 16), Plain.Used len b j →
      Plain.plainScore q K' bt b h (Plain.token j t) = score q (K (across c (partNo bt b j))) b h (inPart bt b j) t := fun j t hu => by
    obtain ⟨r, hr, hr'⟩ := factor_out 128 (fun x => q (ix4 b (0 : Fin 1) h x)) (fun x => K (across c (partNo bt b j)) (ix4 (inPart bt b j) t h x)) factor
      (fun x => hq _) (fun x => hk _ _) factor_real
    refine Eq.trans ?_ (hr'.trans hr.symm)
    unfold Plain.plainScore
    simp only [rows_parted bt K K' hK c b j (hpage b j hu)]
    rfl
  -- the maxima are real
  have hm : ∀ e : Dev nD, maxOf (F := Ideal) e q (K e) h (ix1 b) ≠ ⊥ ∧ maxOf (F := Ideal) e q (K e) h (ix1 b) ≠ ⊤ := fun e =>
    maxOf_real e q (K e) h b fun p s => by obtain ⟨r, hr⟩ := hs e p s; rw [hr]; exact EReal.coe_ne_top r
  have hmr : ∀ e : Dev nD, maxOf (F := Ideal) e q (K e) h (ix1 b) = ((maxOf (F := Ideal) e q (K e) h (ix1 b)).toReal : EReal) := fun e =>
    (EReal.coe_toReal (hm e).2 (hm e).1).symm
  have hM := Plain.greatest_real q K' bt len b h (hlen b) fun k hu => by
    have hk' : k = Plain.token ⟨k.val / 16, by omega⟩ ⟨k.val % 16, by omega⟩ := Fin.ext (by show k.val = 16 * (k.val / 16) + k.val % 16; omega)
    rw [hk', hplain _ _ hu, hsr]
    exact ⟨EReal.coe_ne_bot _, EReal.coe_ne_top _⟩
  rw [combined_apply, Plain.attention_apply]
  generalize hg : greatest _ _ _ _ b h d = g
  have hgr : g ≠ ⊥ ∧ g ≠ ⊤ := by
    rw [← hg]
    refine greatest_is_real _ _ _ _ b h d ?_ ?_ ?_ ?_
    · rw [packed_max]; exact hm _
    · rw [packed_max]; exact (hm _).2
    · rw [packed_max]; exact (hm _).2
    · rw [packed_max]; exact (hm _).2
  unfold weighed
  simp only [packed_max, packed_value, packed_sum, valueOf_apply, sumOf_apply, across_mod]
  unfold count Plain.power
  have key := Softmax.combination (fun (z : Fin 4) p j => Names bt len z.val b p j) (Plain.Used len b) (partNo bt b) (inPart bt b)
    (names_iff bt len b (hpage b)) (fun z p t => (score q (K (across c z)) b h p t).toReal) (fun z p t => V (across c z) (ix4 p t h d))
    (fun z => (maxOf (F := Ideal) (across c z) q (K (across c z)) h (ix1 b)).toReal) g.toReal (Plain.greatest q K' bt len (ix3 b h (0 : Fin 1))).toReal
    ⟨0, lt_of_lt_of_le (by decide) (hlen b)⟩ (fun j t => Plain.plainScore q K' bt b h (Plain.token j t)) (fun j t => Plain.rows bt V' (ix4 b (Plain.token j t) h d))
    (fun j t hu => (hplain j t hu).trans (hsr _ _ _)) (fun j t hu => rows_parted bt V V' hV c b j (hpage b j hu) t h d)
  simp only [← hsr, ← hmr, EReal.coe_toReal hgr.2 hgr.1, EReal.coe_toReal hM.2 hM.1] at key
  exact key

end Cert.Talk
end
-- ==== Proof.Admissible.lean ====
/-
# What the precondition says

The precondition is one Boolean over a device's arguments. Read back: the queries and the keys are real numbers, every sequence has at
least one page in use, and every entry of the page table that is in use names a page.
-/
module

public import proofs.«01_k».proof.Defs
public import proofs.«01_k».proof.Proof.Plain
public import Idealize.ShloMosaic.Lib.ReduceAll

@[expose] public section

noncomputable section

namespace Cert.Admissible

open Idealize.ShloMosaic Idealize.ShloMosaic.TcCoe

set_option maxRecDepth 16384

/-- The shape relations that the precondition's operations take, over a device's blocks. -/
theorem kernel_facts : Cert.Pre_admissible_KernelIdeal.Facts := by
  constructor <;> decide

/-- The shape relations that the precondition's operations take, over the whole arrays. -/
theorem reference_facts : Cert.Pre_admissible_ReferenceIdeal.Facts := by
  constructor <;> decide

/-- An absolute value below plus infinity is that of a real number. -/
theorem real_of_abs (x : EReal) (h : Ideal.cmp .olt (max x (-x)) (Ideal.ofBits .f32 0x7F800000#32) = 1#1) : x ≠ ⊥ ∧ x ≠ ⊤ := by
  have hinf : Ideal.ofBits .f32 0x7F800000#32 = ⊤ := by simp [Ideal.ofBits, Ideal.ieee]
  rw [hinf] at h
  have hl : max x (-x) < ⊤ := by
    by_contra hn
    simp [Ideal.cmp, hn] at h
  constructor
  · rintro rfl
    simp at hl
  · rintro rfl
    simp at hl

/-- A word between nothing and 2048, read signed, is the word of a page. -/
theorem page_of_bounds (w : BitVec 32) (h0 : 0 ≤ w.toInt) (h1 : w.toInt < 2048) : ∃ p : Fin 2048, w = BitVec.ofNat 32 p.val := by
  refine ⟨⟨w.toInt.toNat, by omega⟩, BitVec.eq_of_toInt_eq ?_⟩
  rw [Cert.Talk.toInt_ofNat_small _ (by show w.toInt.toNat < _; omega)]
  show w.toInt = (w.toInt.toNat : ℤ)
  omega

/-- A signed comparison that came out true, read as one of integers. -/
theorem at_least_of_word {x y : BitVec 32} (h : IntOp.cmpi .sge x y = 1#1) : y.toInt ≤ x.toInt := by
  by_contra hn
  simp only [IntOp.cmpi, BitVec.sle] at h
  rw [decide_eq_false hn] at h
  exact absurd h (by decide)

/-- When the comparison of two signed words says less, the first number is less than the second. -/
theorem below_of_word {x y : BitVec 32} (h : IntOp.cmpi .slt x y = 1#1) : x.toInt < y.toInt := by
  by_contra hn
  simp only [IntOp.cmpi, BitVec.slt] at h
  rw [decide_eq_false hn] at h
  exact absurd h (by decide)

/-- "Not true, or y" is y. -/
theorem not_or_word : ∀ y : BitVec 1, IntOp.ori (~~~1#1) y = y := by decide

open Cert.Pre_admissible_KernelIdeal in
/-- The four parts of the precondition. -/
theorem meaning [Facts] (q : FVec Ideal S8x1x8x128 .f32) (K V : FVec Ideal S512x16x8x128 .f32) (bt : IVec S8x512 32) (len : IVec S8 32)
    (h : fn (F := Ideal) q K V bt len = fun _ => 1#1) :
    (∀ i, q i ≠ ⊥ ∧ q i ≠ ⊤) ∧ (∀ i, K i ≠ ⊥ ∧ K i ≠ ⊤) ∧ (∀ b : Fin 8, 1 ≤ (len (ix1 b)).toInt)
      ∧ ∀ (b : Fin 8) (j : Fin 512), (j.val : ℤ) < (len (ix1 b)).toInt → ∃ p : Fin 2048, bt (ix2 b j) = BitVec.ofNat 32 p.val := by
  have e := congrFun h ix0
  unfold fn fn_part1 at e
  dsimp only at e
  obtain ⟨e, h4⟩ := IntOp.andi_eq_one.1 e
  obtain ⟨e, h3⟩ := IntOp.andi_eq_one.1 e
  obtain ⟨h1, h2⟩ := IntOp.andi_eq_one.1 e
  have : Subsingleton S_.Idx := ⟨fun a b => funext fun i => i.elim0⟩
  refine ⟨fun i => real_of_abs _ ?_, fun i => real_of_abs _ ?_, fun b => ?_, fun b j hj => ?_⟩
  · exact Host.reduce_andi_all _ _ _ _ _ h1 i
  · exact Host.reduce_andi_all _ _ _ _ _ h2 i
  · have hb := Host.reduce_andi_all _ _ _ _ _ h3 (ix1 b)
    revert hb
    pointwise
    intro hb
    exact at_least_of_word hb
  · have hb := Host.reduce_andi_all _ _ _ _ _ h4 (ix2 b j)
    revert hb
    pointwise
    intro hb
    rw [show IntOp.cmpi .slt (BitVec.ofNat 32 j.val) (len (ix1 b)) = 1#1 by
      simp only [IntOp.cmpi, BitVec.slt, Cert.Talk.toInt_small]
      rw [decide_eq_true hj]; rfl] at hb
    rw [not_or_word] at hb
    obtain ⟨h0, h1⟩ := IntOp.andi_eq_one.1 hb
    exact page_of_bounds _ (at_least_of_word h0) (below_of_word h1)

end Cert.Admissible
end
-- ==== Proof.Agree.lean ====
/-
# The claim about the value

From memories where every device has its part of the reference's arrays and the precondition holds, each device's result array ends
holding the reference's result.
-/
module

public import proofs.«01_k».proof.Proof.Run
public import proofs.«01_k».proof.Proof.Equal
public import proofs.«01_k».proof.Proof.Admissible

@[expose] public section

noncomputable section

namespace Cert.Agree

open Cert.Talk
open Idealize.ShloMosaic Idealize.ShloMosaic.TcCoe Idealize.SL.Sem

set_option maxRecDepth 16384

/-- A block along the third axis of the mesh is a part in the sense of the equation. -/
theorem parted_of_block (T : Dev KernelIdeal.nD → FVec Ideal KernelIdeal.S512x16x8x128 .f32) (T' : FVec Ideal ReferenceIdeal.S2048x16x8x128 .f32)
    (h : ∀ c, T c = Layout.blockN ⟨4, ![512, 16, 8, 128]⟩ ⟨4, ![2048, 16, 8, 128]⟩ (Layout.meshBlock [2, 2, 4] ![[2], [], [], []] c) T') : Parted T T' := by
  intro c p s h' d
  rw [h c, Layout.blockN_apply]
  refine congrArg T' (funext fun a => Fin.ext ?_)
  rw [Layout.TilesN.idx_val]
  fin_cases a
  · show (0 * 4 + c.val / 1 % 4) * 512 + p.val = 512 * (c.val % 4) + p.val
    omega
  · show 0 * 16 + s.val = s.val
    omega
  · show 0 * 8 + h'.val = h'.val
    omega
  · show 0 * 128 + d.val = d.val
    omega

/-- Equal arguments give equal partial results. -/
theorem partial_congr (e : Dev KernelIdeal.nD) {q q' : FVec Ideal KernelIdeal.S8x1x8x128 .f32} {bt bt' : IVec KernelIdeal.S8x512 32}
    {len len' : IVec KernelIdeal.S8 32} (K V : FVec Ideal KernelIdeal.S512x16x8x128 .f32) (hq : q = q') (hbt : bt = bt') (hlen : len = len') :
    partialOf (F := Ideal) e q bt len K V = partialOf (F := Ideal) e q' bt' len' K V := by
  subst hq hbt hlen
  rfl

attribute [local instance] Admissible.kernel_facts

/-- On every device the kernel's result is the reference's. -/
theorem algebraic : Cert.algebraic_KernelIdeal_ReferenceIdeal_pre_admissible_KernelIdeal := by
  intro m g m' g' hpre hargs
  refine ⟨ReferenceIdeal.Value.res_main_v38 m' 0, ?_, ?_⟩
  · refine (θ_run KernelIdeal.defs _ _).mono (fun r h c => ?_) (run_main (F := Ideal) m g)
    obtain ⟨k0, k1, k2, k3, k4⟩ := h.2.1 c
    refine ⟨(h.1 c).trans ?_, k0, k1, k2, k3, k4⟩
    have hK := parted_of_block (fun e => m (e.tc.loc KernelIdeal.main_arg1)) _ fun e => (hargs e).2.1
    have hV := parted_of_block (fun e => m (e.tc.loc KernelIdeal.main_arg2)) _ fun e => (hargs e).2.2.1
    have hmean := fun e => Admissible.meaning _ _ _ _ _ (hpre e)
    have hpart : ∀ e, partOf m e = partialOf (F := Ideal) e (m' ((0 : Dev ReferenceIdeal.nD).tc.loc ReferenceIdeal.main_arg0))
        (m' ((0 : Dev ReferenceIdeal.nD).tc.loc ReferenceIdeal.main_arg3)) (m' ((0 : Dev ReferenceIdeal.nD).tc.loc ReferenceIdeal.main_arg4))
        (m (e.tc.loc KernelIdeal.main_arg1)) (m (e.tc.loc KernelIdeal.main_arg2)) := fun e => by
      unfold partOf
      rw [qOf_eq, btOf_eq, lensOf_eq]
      exact partial_congr e _ _ (hargs e).1 (hargs e).2.2.2.1 (hargs e).2.2.2.2
    refine (congrArg (fun X => combined (F := Ideal) X c) (funext hpart)).trans ?_
    rw [Plain.result_eq]
    refine combined_eq _ _ _ _ _ _ _ hK hV ?_ (fun e => (hmean e).2.1) ?_ ?_ c
    · intro i
      rw [← (hargs c).1]
      exact (hmean c).1 i
    · intro b
      rw [← (hargs c).2.2.2.2]
      exact (hmean c).2.2.1 b
    · intro b j
      rw [← (hargs c).2.2.2.1, ← (hargs c).2.2.2.2]
      exact (hmean c).2.2.2 b j
  · exact (θ_run ReferenceIdeal.defs _ _).mono (fun r h => h 0) (ReferenceIdeal.Value.run (F := Ideal) m' g')

end Cert.Agree
end
-- ==== Proof.lean ====
/-
  The certificate of the paged attention kernel on sixteen devices.

  Both kernel programs have the same text, so the run is written once, for any float values (`Cert.Talk.run_main`), and each
  frame is that run at its own float values with the results dropped. What the results are, and that they are the reference's, is
  `Cert.Agree.algebraic`.
-/
module

public import proofs.«01_k».proof.Defs
public import proofs.«01_k».proof.Proof.Run
public import proofs.«01_k».proof.Proof.Agree
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public section

open Idealize.ShloMosaic Idealize.ShloMosaic.TcCoe Idealize.SL Idealize.SL.Sem

namespace Cert.Proof

/-- The body tables of the two kernel programs agree, -/
theorem bodies_eq : Cert.Kernel.defs₀ (F := Bits) = Cert.KernelIdeal.defs₀ (F := Bits) := by
  unfold Cert.Kernel.defs₀ Cert.KernelIdeal.defs₀
  refine congrArg (Defs.onTc (nD := Cert.Kernel.nD) (τ := Cert.Kernel.τ) (sig := Cert.Kernel.sig) (Val := Elt Bits) (Λ := Cert.Kernel.Λ₀)) ?_
  funext l a
  match l, a with
  | 0, (_, _) => rfl

/-- and so do the tables that the whole programs run. -/
theorem defs_eq : Cert.Kernel.defs (F := Bits) = Cert.KernelIdeal.defs (F := Bits) :=
  congrArg (fun D => Pipeline.defs (Cert.Kernel.pcfgs (F := Bits)) D) bodies_eq

/-- The kernel over the float words: it terminates, keeps its arguments, and leaves every counter at zero. -/
theorem frame_kernel : Cert.quiescent_Kernel := fun m ρ _ => by
  rw [defs_eq]
  exact Cert.Talk.run_frame (F := Bits) m ρ

/-- The kernel over the extended reals: the same. -/
theorem frame_kernelIdeal : Cert.quiescent_KernelIdeal := fun m ρ _ =>
  Cert.Talk.run_frame (F := Ideal) m ρ

/-- The reference, whose run is a straight line of array operations. -/
theorem frame_reference : Cert.quiescent_ReferenceIdeal := fun m ρ _ =>
  (θ_run Cert.ReferenceIdeal.defs _ _).mono (fun _ h => ⟨fun c => (h c).2, sem_eq_zero_of_no_sems rfl _⟩)
    (Cert.ReferenceIdeal.Value.run (F := Ideal) m ρ)

/-- All the claims; a frame holds with the precondition because it holds without. -/
theorem claim : Cert.Claim :=
  ⟨Cert.Kernel.Gen.facts, Cert.KernelIdeal.Gen.facts, Cert.ReferenceIdeal.Gen.facts, Cert.Admissible.kernel_facts, Cert.Admissible.reference_facts,
    frame_kernel, frame_kernelIdeal, fun m ρ _ => frame_kernelIdeal m ρ trivial, frame_reference, fun m ρ _ => frame_reference m ρ trivial, trivial,
    Cert.Agree.algebraic⟩

end Cert.Proof
end
